-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_nodes [hPre_finite_nodes : Cert.Pre_finite_nodes.Facts] (m : (ℓ : Loc Cert.KernelIdeal.nD Cert.KernelIdeal.τ Cert.KernelIdeal.sig) → Buf (Elt Ideal) ℓ) : Prop :=
  ∀ c : Dev Cert.KernelIdeal.nD,
    (Cert.Pre_finite_nodes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_nodes [hPre_finite_nodes : Cert.Pre_finite_nodes.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_nodes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_KernelIdeal_pre_finite_nodes [hKernelIdeal : Cert.KernelIdeal.Facts] [hPre_finite_nodes : Cert.Pre_finite_nodes.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_nodes m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def quiescent_ReferenceIdeal_pre_finite_nodes [hReferenceIdeal : Cert.ReferenceIdeal.Facts] [hPre_finite_nodes : Cert.Pre_finite_nodes.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_nodes m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def preserves_Kernel_KernelIdeal : Prop :=
  True

def algebraic_KernelIdeal_ReferenceIdeal_pre_finite_nodes [hKernelIdeal : Cert.KernelIdeal.Facts] [hReferenceIdeal : Cert.ReferenceIdeal.Facts] [hPre_finite_nodes : Cert.Pre_finite_nodes.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_nodes m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v8_2)) (v3 : (c : Dev Cert.KernelIdeal.nD) → Buf (Elt Ideal) ((c.tc : Thread Cert.KernelIdeal.nD Cert.KernelIdeal.τ).loc Cert.KernelIdeal.main_v8_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_v8_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_v76) = v1 c
          ∧ r.2.mem ((c.tc : Thread Cert.ReferenceIdeal.nD Cert.ReferenceIdeal.τ).loc Cert.ReferenceIdeal.main_v86) = v2 c
          ∧ r.2.mem ((c.tc : Thread Cert.ReferenceIdeal.nD Cert.ReferenceIdeal.τ).loc Cert.ReferenceIdeal.main_v59) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_nodes : Cert.Pre_finite_nodes.Facts),
    quiescent_Kernel (hKernel := hKernel)
    ∧ quiescent_KernelIdeal (hKernelIdeal := hKernelIdeal)
    ∧ quiescent_KernelIdeal_pre_finite_nodes (hKernelIdeal := hKernelIdeal) (hPre_finite_nodes := hPre_finite_nodes)
    ∧ quiescent_ReferenceIdeal (hReferenceIdeal := hReferenceIdeal)
    ∧ quiescent_ReferenceIdeal_pre_finite_nodes (hReferenceIdeal := hReferenceIdeal) (hPre_finite_nodes := hPre_finite_nodes)
    ∧ preserves_Kernel_KernelIdeal
    ∧ algebraic_KernelIdeal_ReferenceIdeal_pre_finite_nodes (hKernelIdeal := hKernelIdeal) (hReferenceIdeal := hReferenceIdeal) (hPre_finite_nodes := hPre_finite_nodes)
-- ==== Pre_finite_nodes.lean ====
abbrev S128x1x128 : Shape := ⟨3, ![128, 1, 128]⟩
abbrev S128x100x128 : Shape := ⟨3, ![128, 100, 128]⟩
abbrev S128x1000x128 : Shape := ⟨3, ![128, 1000, 128]⟩
abbrev S128x1x512 : Shape := ⟨3, ![128, 1, 512]⟩
abbrev S128 : Shape := ⟨1, ![128]⟩
abbrev S128x1x1000 : Shape := ⟨3, ![128, 1, 1000]⟩
abbrev S128x1x100 : Shape := ⟨3, ![128, 1, 100]⟩
abbrev S_ : Shape := ⟨0, ![]⟩
abbrev S384x128 : Shape := ⟨2, ![384, 128]⟩
abbrev S128x128 : Shape := ⟨2, ![128, 128]⟩

class Facts : Prop where
  bcast_S_S128x1000x128 : S_.BroadcastsInDim S128x1000x128 (![] : Fin 0 → Fin S128x1000x128.rank)
  reducesTo_S128x1000x128_S_d0_1_2 : S128x1000x128.ReducesTo [0, 1, 2] S_
  h_S_ : 0 < S_.numel

variable [Facts]

def fn {F : FTy → Type} [FloatOps F] (main_arg0 : FVec F S128x1x128 .f32) (main_arg1 : FVec F S128x100x128 .f32) (main_arg2 : FVec F S128x1x128 .f32) (main_arg3 : FVec F S128x1000x128 .f32) (main_arg4 : FVec F S128x1x512 .f32) (main_arg5 : FVec F S128 .f32) (main_arg6 : IVec S128x1x1000 1) (main_arg7 : IVec S128x1x100 1) (main_arg8 : IVec S128x1x1000 1) (main_arg9 : FVec F S128x1x128 .f32) (main_arg10 : IVec S_ 32) (main_arg11 : IVec S128 32) (main_arg12 : IVec S_ 32) (main_arg13 : FVec F S384x128 .f32) (main_arg14 : FVec F S128x128 .f32) (main_arg15 : FVec F S128x128 .f32) (main_arg16 : FVec F S128x128 .f32) (main_arg17 : FVec F S128x128 .f32) (main_arg18 : FVec F S128x128 .f32) (main_arg19 : FVec F S128x128 .f32) (main_arg20 : FVec F S128x128 .f32) : IVec S_ 1 :=
  let main_v0 : FVec F S128x1000x128 .f32 := Host.absf main_arg3
  let main_cst : FVec F S_ .f32 := constant S_ .f32 0x7F800000#32
  let main_v1 : FVec F S128x1000x128 .f32 := broadcastInDim S128x1000x128 ![] bcast_S_S128x1000x128 main_cst
  let main_v2 : IVec S128x1000x128 1 := cmpf .olt main_v0 main_v1
  let main_c : IVec S_ 1 := constantI S_ 1 1#1
  let main_v3 : IVec S_ 1 := (fun x v => Host.reduce IntOp.andi x v reducesTo_S128x1000x128_S_d0_1_2 h_S_) main_v2 main_c
  main_v3
-- ==== Kernel.lean ====
abbrev S128x1x128 : Shape := ⟨3, ![128, 1, 128]⟩
abbrev S128x100x128 : Shape := ⟨3, ![128, 100, 128]⟩
abbrev S128x1000x128 : Shape := ⟨3, ![128, 1000, 128]⟩
abbrev S128x1x512 : Shape := ⟨3, ![128, 1, 512]⟩
abbrev S128 : Shape := ⟨1, ![128]⟩
abbrev S128x1x1000 : Shape := ⟨3, ![128, 1, 1000]⟩
abbrev S128x1x100 : Shape := ⟨3, ![128, 1, 100]⟩
abbrev S_ : Shape := ⟨0, ![]⟩
abbrev S384x128 : Shape := ⟨2, ![384, 128]⟩
abbrev S128x128 : Shape := ⟨2, ![128, 128]⟩
abbrev S128x2x1000 : Shape := ⟨3, ![128, 2, 1000]⟩
abbrev S128x100x1 : Shape := ⟨3, ![128, 100, 1]⟩
abbrev S128x1 : Shape := ⟨2, ![128, 1]⟩
abbrev S128x100 : Shape := ⟨2, ![128, 100]⟩
abbrev S32x2x1000 : Shape := ⟨3, ![32, 2, 1000]⟩
abbrev S32x1000x128 : Shape := ⟨3, ![32, 1000, 128]⟩
abbrev S32x100x128 : Shape := ⟨3, ![32, 100, 128]⟩
abbrev S32x100x1 : Shape := ⟨3, ![32, 100, 1]⟩
abbrev S32x1x128 : Shape := ⟨3, ![32, 1, 128]⟩
abbrev S32x1x512 : Shape := ⟨3, ![32, 1, 512]⟩
abbrev S32x1 : Shape := ⟨2, ![32, 1]⟩
abbrev S32x100 : Shape := ⟨2, ![32, 100]⟩
abbrev S32x2x128 : Shape := ⟨3, ![32, 2, 128]⟩
abbrev S32x128 : Shape := ⟨2, ![32, 128]⟩
abbrev S32x384 : Shape := ⟨2, ![32, 384]⟩
abbrev S128x8 : Shape := ⟨2, ![128, 8]⟩
abbrev S32x100x8 : Shape := ⟨3, ![32, 100, 8]⟩
abbrev S32x1x1 : Shape := ⟨3, ![32, 1, 1]⟩
abbrev S32x8 : Shape := ⟨2, ![32, 8]⟩
abbrev S32x1x8 : Shape := ⟨3, ![32, 1, 8]⟩
abbrev S32x8x128 : Shape := ⟨3, ![32, 8, 128]⟩
abbrev S8x128 : Shape := ⟨2, ![8, 128]⟩
abbrev S1x8x128 : Shape := ⟨3, ![1, 8, 128]⟩
abbrev S32 : Shape := ⟨1, ![32]⟩
abbrev S32x512 : Shape := ⟨2, ![32, 512]⟩

abbrev nBuf : Space → Nat
  | .hbm => 33
  | .vmem => 28
  | .smem => 0
  | _ => 0

abbrev bufTy : (tb : Table) → Fin (tcTables nBuf tb) → BufTy
  | .hbm, ⟨0, _⟩ => ⟨S128x1x128, .f32⟩
  | .hbm, ⟨1, _⟩ => ⟨S128x100x128, .f32⟩
  | .hbm, ⟨2, _⟩ => ⟨S128x1x128, .f32⟩
  | .hbm, ⟨3, _⟩ => ⟨S128x1000x128, .f32⟩
  | .hbm, ⟨4, _⟩ => ⟨S128x1x512, .f32⟩
  | .hbm, ⟨5, _⟩ => ⟨S128, .f32⟩
  | .hbm, ⟨6, _⟩ => ⟨S128x1x1000, .i1⟩
  | .hbm, ⟨7, _⟩ => ⟨S128x1x100, .i1⟩
  | .hbm, ⟨8, _⟩ => ⟨S128x1x1000, .i1⟩
  | .hbm, ⟨9, _⟩ => ⟨S128x1x128, .f32⟩
  | .hbm, ⟨10, _⟩ => ⟨S_, .i32⟩
  | .hbm, ⟨11, _⟩ => ⟨S128, .i32⟩
  | .hbm, ⟨12, _⟩ => ⟨S_, .i32⟩
  | .hbm, ⟨13, _⟩ => ⟨S384x128, .f32⟩
  | .hbm, ⟨14, _⟩ => ⟨S128x128, .f32⟩
  | .hbm, ⟨15, _⟩ => ⟨S128x128, .f32⟩
  | .hbm, ⟨16, _⟩ => ⟨S128x128, .f32⟩
  | .hbm, ⟨17, _⟩ => ⟨S128x128, .f32⟩
  | .hbm, ⟨18, _⟩ => ⟨S128x128, .f32⟩
  | .hbm, ⟨19, _⟩ => ⟨S128x128, .f32⟩
  | .hbm, ⟨20, _⟩ => ⟨S128x128, .f32⟩
  | .hbm, ⟨21, _⟩ => ⟨S128x1x1000, .i1⟩
  | .hbm, ⟨22, _⟩ => ⟨S128x1x1000, .f32⟩
  | .hbm, ⟨23, _⟩ => ⟨S128x1x1000, .i1⟩
  | .hbm, ⟨24, _⟩ => ⟨S128x1x1000, .i1⟩
  | .hbm, ⟨25, _⟩ => ⟨S128x1x1000, .f32⟩
  | .hbm, ⟨26, _⟩ => ⟨S128x2x1000, .f32⟩
  | .hbm, ⟨27, _⟩ => ⟨S128x1x100, .f32⟩
  | .hbm, ⟨28, _⟩ => ⟨S128x100x1, .f32⟩
  | .hbm, ⟨29, _⟩ => ⟨S128x1x512, .f32⟩
  | .hbm, ⟨30, _⟩ => ⟨S128x1x128, .f32⟩
  | .hbm, ⟨31, _⟩ => ⟨S128x1, .i32⟩
  | .hbm, ⟨32, _⟩ => ⟨S128x100, .f32⟩
  | .local _ .vmem, ⟨0, _⟩ => ⟨S32x2x1000, .f32⟩
  | .local _ .vmem, ⟨1, _⟩ => ⟨S32x2x1000, .f32⟩
  | .local _ .vmem, ⟨2, _⟩ => ⟨S32x1000x128, .f32⟩
  | .local _ .vmem, ⟨3, _⟩ => ⟨S32x1000x128, .f32⟩
  | .local _ .vmem, ⟨4, _⟩ => ⟨S32x100x128, .f32⟩
  | .local _ .vmem, ⟨5, _⟩ => ⟨S32x100x128, .f32⟩
  | .local _ .vmem, ⟨6, _⟩ => ⟨S32x100x1, .f32⟩
  | .local _ .vmem, ⟨7, _⟩ => ⟨S32x100x1, .f32⟩
  | .local _ .vmem, ⟨8, _⟩ => ⟨S32x1x128, .f32⟩
  | .local _ .vmem, ⟨9, _⟩ => ⟨S32x1x128, .f32⟩
  | .local _ .vmem, ⟨10, _⟩ => ⟨S32x1x128, .f32⟩
  | .local _ .vmem, ⟨11, _⟩ => ⟨S32x1x128, .f32⟩
  | .local _ .vmem, ⟨12, _⟩ => ⟨S384x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | .local _ .vmem, ⟨16, _⟩ => ⟨S128x128, .f32⟩
  | .local _ .vmem, ⟨17, _⟩ => ⟨S128x128, .f32⟩
  | .local _ .vmem, ⟨18, _⟩ => ⟨S128x128, .f32⟩
  | .local _ .vmem, ⟨19, _⟩ => ⟨S128x128, .f32⟩
  | .local _ .vmem, ⟨20, _⟩ => ⟨S32x1x512, .f32⟩
  | .local _ .vmem, ⟨21, _⟩ => ⟨S32x1x512, .f32⟩
  | .local _ .vmem, ⟨22, _⟩ => ⟨S32x1x128, .f32⟩
  | .local _ .vmem, ⟨23, _⟩ => ⟨S32x1x128, .f32⟩
  | .local _ .vmem, ⟨24, _⟩ => ⟨S32x1, .i32⟩
  | .local _ .vmem, ⟨25, _⟩ => ⟨S32x1, .i32⟩
  | .local _ .vmem, ⟨26, _⟩ => ⟨S32x100, .f32⟩
  | .local _ .vmem, ⟨27, _⟩ => ⟨S32x100, .f32⟩
  | _, _ => ⟨S128x1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8_0 : Ref sig .tc := ⟨.hbm, 29, rfl⟩
abbrev main_v8_1 : Ref sig .tc := ⟨.hbm, 30, rfl⟩
abbrev main_v8_2 : Ref sig .tc := ⟨.hbm, 31, rfl⟩
abbrev main_v8_3 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x2x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x100x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x100x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S384x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S32x1x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S32x1x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S32x1 .i32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S32x100 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== ReferenceIdeal.lean ====
abbrev S128x1x128 : Shape := ⟨3, ![128, 1, 128]⟩
abbrev S128x100x128 : Shape := ⟨3, ![128, 100, 128]⟩
abbrev S128x1000x128 : Shape := ⟨3, ![128, 1000, 128]⟩
abbrev S128x1x512 : Shape := ⟨3, ![128, 1, 512]⟩
abbrev S128 : Shape := ⟨1, ![128]⟩
abbrev S128x1x1000 : Shape := ⟨3, ![128, 1, 1000]⟩
abbrev S128x1x100 : Shape := ⟨3, ![128, 1, 100]⟩
abbrev S_ : Shape := ⟨0, ![]⟩
abbrev S384x128 : Shape := ⟨2, ![384, 128]⟩
abbrev S128x128 : Shape := ⟨2, ![128, 128]⟩
abbrev S128x1000 : Shape := ⟨2, ![128, 1000]⟩
abbrev S128x1000x1 : Shape := ⟨3, ![128, 1000, 1]⟩
abbrev S128x1x384 : Shape := ⟨3, ![128, 1, 384]⟩
abbrev S128x1x99 : Shape := ⟨3, ![128, 1, 99]⟩
abbrev S128x99 : Shape := ⟨2, ![128, 99]⟩
abbrev S1 : Shape := ⟨1, ![1]⟩
abbrev S2 : Shape := ⟨1, ![2]⟩
abbrev S128x1x8x16 : Shape := ⟨4, ![128, 1, 8, 16]⟩
abbrev S128x8x1x16 : Shape := ⟨4, ![128, 8, 1, 16]⟩
abbrev S128x100x8x16 : Shape := ⟨4, ![128, 100, 8, 16]⟩
abbrev S128x8x100x16 : Shape := ⟨4, ![128, 8, 100, 16]⟩
abbrev S128x8x1x100 : Shape := ⟨4, ![128, 8, 1, 100]⟩
abbrev S128x1x1x100 : Shape := ⟨4, ![128, 1, 1, 100]⟩
abbrev S128x8x1 : Shape := ⟨3, ![128, 8, 1]⟩
abbrev S128x8x1x1 : Shape := ⟨4, ![128, 8, 1, 1]⟩
abbrev S128x128x100 : Shape := ⟨3, ![128, 128, 100]⟩
abbrev S128x100 : Shape := ⟨2, ![128, 100]⟩
abbrev S128x1 : Shape := ⟨2, ![128, 1]⟩
abbrev S128x2 : Shape := ⟨2, ![128, 2]⟩

abbrev nBuf : Space → Nat
  | .hbm => 158
  | .vmem => 0
  | .smem => 0
  | _ => 0

abbrev hbmTy0_0 (i : Nat) : BufTy := match i % 128 with
  | 0 => ⟨S128x1x128, .f32⟩
  | 1 => ⟨S128x100x128, .f32⟩
  | 2 => ⟨S128x1x128, .f32⟩
  | 3 => ⟨S128x1000x128, .f32⟩
  | 4 => ⟨S128x1x512, .f32⟩
  | 5 => ⟨S128, .f32⟩
  | 6 => ⟨S128x1x1000, .i1⟩
  | 7 => ⟨S128x1x100, .i1⟩
  | 8 => ⟨S128x1x1000, .i1⟩
  | 9 => ⟨S128x1x128, .f32⟩
  | 10 => ⟨S_, .i32⟩
  | 11 => ⟨S128, .i32⟩
  | 12 => ⟨S_, .i32⟩
  | 13 => ⟨S384x128, .f32⟩
  | 14 => ⟨S128x128, .f32⟩
  | 15 => ⟨S128x128, .f32⟩
  | 16 => ⟨S128x128, .f32⟩
  | 17 => ⟨S128x128, .f32⟩
  | 18 => ⟨S128x128, .f32⟩
  | 19 => ⟨S128x128, .f32⟩
  | 20 => ⟨S128x128, .f32⟩
  | 21 => ⟨S128x1000, .i1⟩
  | 22 => ⟨S128x1000x1, .i1⟩
  | 23 => ⟨S_, .f32⟩
  | 24 => ⟨S_, .f32⟩
  | 25 => ⟨S128x1000x128, .i1⟩
  | 26 => ⟨S128x1000x128, .f32⟩
  | 27 => ⟨S128x1000x128, .f32⟩
  | 28 => ⟨S_, .f32⟩
  | 29 => ⟨S128x128, .f32⟩
  | 30 => ⟨S128x1x128, .f32⟩
  | 31 => ⟨S_, .f32⟩
  | 32 => ⟨S128x1x128, .f32⟩
  | 33 => ⟨S128x1x128, .f32⟩
  | 34 => ⟨S128x1x384, .f32⟩
  | 35 => ⟨S128x1x128, .f32⟩
  | 36 => ⟨S128x100x128, .f32⟩
  | 37 => ⟨S128x100x128, .f32⟩
  | 38 => ⟨S128x100x128, .f32⟩
  | 39 => ⟨S128x1x99, .i1⟩
  | 40 => ⟨S128x99, .i1⟩
  | 41 => ⟨S_, .i1⟩
  | 42 => ⟨S128, .i1⟩
  | 43 => ⟨S128, .i1⟩
  | 44 => ⟨S_, .i32⟩
  | 45 => ⟨S1, .i32⟩
  | 46 => ⟨S_, .i32⟩
  | 47 => ⟨S1, .i32⟩
  | 48 => ⟨S2, .i32⟩
  | 49 => ⟨S128x1x100, .i1⟩
  | 50 => ⟨S128x1x128, .f32⟩
  | 51 => ⟨S128x1x8x16, .f32⟩
  | 52 => ⟨S128x8x1x16, .f32⟩
  | 53 => ⟨S128x100x128, .f32⟩
  | 54 => ⟨S128x100x8x16, .f32⟩
  | 55 => ⟨S128x8x100x16, .f32⟩
  | 56 => ⟨S128x100x128, .f32⟩
  | 57 => ⟨S128x100x8x16, .f32⟩
  | 58 => ⟨S128x8x100x16, .f32⟩
  | 59 => ⟨S128x8x1x100, .f32⟩
  | 60 => ⟨S_, .f32⟩
  | 61 => ⟨S128x8x1x100, .f32⟩
  | 62 => ⟨S128x8x1x100, .f32⟩
  | 63 => ⟨S128x1x1x100, .i1⟩
  | 64 => ⟨S_, .f32⟩
  | 65 => ⟨S_, .f32⟩
  | 66 => ⟨S128x8x1x100, .i1⟩
  | 67 => ⟨S128x8x1x100, .f32⟩
  | 68 => ⟨S128x8x1x100, .f32⟩
  | 69 => ⟨S_, .f32⟩
  | 70 => ⟨S128x8x1, .f32⟩
  | 71 => ⟨S_, .f32⟩
  | 72 => ⟨S128x8x1, .f32⟩
  | 73 => ⟨S128x8x1, .f32⟩
  | 74 => ⟨S128x8x1x1, .f32⟩
  | 75 => ⟨S128x8x1x100, .f32⟩
  | 76 => ⟨S128x8x1x100, .f32⟩
  | 77 => ⟨S128x8x1x100, .f32⟩
  | 78 => ⟨S_, .f32⟩
  | 79 => ⟨S128x8x1, .f32⟩
  | 80 => ⟨S128x8x1x1, .f32⟩
  | 81 => ⟨S128x8x1x100, .f32⟩
  | 82 => ⟨S128x8x1x100, .f32⟩
  | 83 => ⟨S128x8x1x16, .f32⟩
  | 84 => ⟨S128x1x8x16, .f32⟩
  | 85 => ⟨S128x1x128, .f32⟩
  | 86 => ⟨S128x1x128, .f32⟩
  | 87 => ⟨S128x128x100, .f32⟩
  | 88 => ⟨S128x1x100, .f32⟩
  | 89 => ⟨S128x100, .f32⟩
  | 90 => ⟨S_, .f32⟩
  | 91 => ⟨S128x100, .f32⟩
  | 92 => ⟨S128x100, .f32⟩
  | 93 => ⟨S128x100, .f32⟩
  | 94 => ⟨S_, .f32⟩
  | 95 => ⟨S128x100, .f32⟩
  | 96 => ⟨S128x100, .f32⟩
  | 97 => ⟨S128x100, .i1⟩
  | 98 => ⟨S_, .f32⟩
  | 99 => ⟨S_, .f32⟩
  | 100 => ⟨S128x100, .f32⟩
  | 101 => ⟨S128x100, .f32⟩
  | 102 => ⟨S_, .f32⟩
  | 103 => ⟨S128, .f32⟩
  | 104 => ⟨S_, .f32⟩
  | 105 => ⟨S128, .f32⟩
  | 106 => ⟨S128, .f32⟩
  | 107 => ⟨S128x1, .f32⟩
  | 108 => ⟨S128x100, .f32⟩
  | 109 => ⟨S128x100, .f32⟩
  | 110 => ⟨S128x100, .f32⟩
  | 111 => ⟨S_, .f32⟩
  | 112 => ⟨S128, .f32⟩
  | 113 => ⟨S128x1, .f32⟩
  | 114 => ⟨S128x1, .f32⟩
  | 115 => ⟨S128x100, .f32⟩
  | 116 => ⟨S128x100, .f32⟩
  | 117 => ⟨S128x100, .i32⟩
  | 118 => ⟨S_, .f32⟩
  | 119 => ⟨S_, .i32⟩
  | 120 => ⟨S128, .f32⟩
  | 121 => ⟨S128, .i32⟩
  | 122 => ⟨S128, .i32⟩
  | 123 => ⟨S_, .i32⟩
  | 124 => ⟨S128, .i32⟩
  | 125 => ⟨S128, .i1⟩
  | 126 => ⟨S_, .i32⟩
  | 127 => ⟨S128, .i32⟩
  | _ => ⟨S128x1x128, .f32⟩

abbrev hbmTy0_1 (i : Nat) : BufTy := match i % 128 with
  | 0 => ⟨S128, .i32⟩
  | 1 => ⟨S128, .i32⟩
  | 2 => ⟨S_, .i32⟩
  | 3 => ⟨S128, .i32⟩
  | 4 => ⟨S128, .i1⟩
  | 5 => ⟨S_, .i32⟩
  | 6 => ⟨S128, .i32⟩
  | 7 => ⟨S128, .i32⟩
  | 8 => ⟨S128, .i32⟩
  | 9 => ⟨S128x1, .i32⟩
  | 10 => ⟨S128x1, .i32⟩
  | 11 => ⟨S128x2, .i32⟩
  | 12 => ⟨S128x128, .f32⟩
  | 13 => ⟨S128x1x128, .f32⟩
  | 14 => ⟨S128x1x1000, .i1⟩
  | 15 => ⟨S128x1000, .i1⟩
  | 16 => ⟨S128x1000x1, .i1⟩
  | 17 => ⟨S_, .f32⟩
  | 18 => ⟨S_, .f32⟩
  | 19 => ⟨S128x1000x128, .i1⟩
  | 20 => ⟨S128x1000x128, .f32⟩
  | 21 => ⟨S128x1000x128, .f32⟩
  | 22 => ⟨S_, .f32⟩
  | 23 => ⟨S128x128, .f32⟩
  | 24 => ⟨S128x1x128, .f32⟩
  | 25 => ⟨S_, .f32⟩
  | 26 => ⟨S128x1x128, .f32⟩
  | 27 => ⟨S128x1x128, .f32⟩
  | 28 => ⟨S128x1x512, .f32⟩
  | 29 => ⟨S128x1, .i32⟩
  | _ => ⟨S128x1x128, .f32⟩

abbrev hbmTy (i : Nat) : BufTy := match i / 128 with
  | 0 => hbmTy0_0 i
  | 1 => hbmTy0_1 i
  | _ => ⟨S128x1x128, .f32⟩

abbrev bufTy : (tb : Table) → Fin (tcTables nBuf tb) → BufTy
  | .hbm, ⟨i, _⟩ => hbmTy i
  | _, _ => ⟨S128x1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_cst : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v2 : Ref sig .tc := ⟨.hbm, 27, rfl⟩
abbrev main_cst_0 : Ref sig .tc := ⟨.hbm, 28, rfl⟩
abbrev main_v3 : Ref sig .tc := ⟨.hbm, 29, rfl⟩
abbrev main_v4 : Ref sig .tc := ⟨.hbm, 30, rfl⟩
abbrev main_cst_1 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_c : Ref sig .tc := ⟨.hbm, 41, rfl⟩
abbrev main_v14 : Ref sig .tc := ⟨.hbm, 42, rfl⟩
abbrev main_v15 : Ref sig .tc := ⟨.hbm, 43, rfl⟩
abbrev main_c_2 : Ref sig .tc := ⟨.hbm, 44, rfl⟩
abbrev main_v16 : Ref sig .tc := ⟨.hbm, 45, rfl⟩
abbrev main_c_3 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_cst_4 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_cst_5 : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_v33 : Ref sig .tc := ⟨.hbm, 68, rfl⟩
abbrev main_cst_6 : Ref sig .tc := ⟨.hbm, 69, rfl⟩
abbrev main_v34 : Ref sig .tc := ⟨.hbm, 70, rfl⟩
abbrev main_cst_7 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_cst_8 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_cst_9 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_cst_10 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_cst_11 : Ref sig .tc := ⟨.hbm, 98, rfl⟩
abbrev main_call2_v0 : Ref sig .tc := ⟨.hbm, 99, rfl⟩
abbrev main_call2_v1 : Ref sig .tc := ⟨.hbm, 100, rfl⟩
abbrev main_v58 : Ref sig .tc := ⟨.hbm, 101, rfl⟩
abbrev main_call3_cst : Ref sig .tc := ⟨.hbm, 102, rfl⟩
abbrev main_call3_v0 : Ref sig .tc := ⟨.hbm, 103, rfl⟩
abbrev main_call3_cst_0 : Ref sig .tc := ⟨.hbm, 104, rfl⟩
abbrev main_call3_v1 : Ref sig .tc := ⟨.hbm, 105, rfl⟩
abbrev main_call3_v2 : Ref sig .tc := ⟨.hbm, 106, rfl⟩
abbrev main_call3_v3 : Ref sig .tc := ⟨.hbm, 107, rfl⟩
abbrev main_call3_v4 : Ref sig .tc := ⟨.hbm, 108, rfl⟩
abbrev main_call3_v5 : Ref sig .tc := ⟨.hbm, 109, rfl⟩
abbrev main_call3_v6 : Ref sig .tc := ⟨.hbm, 110, rfl⟩
abbrev main_call3_cst_1 : Ref sig .tc := ⟨.hbm, 111, rfl⟩
abbrev main_call3_v7 : Ref sig .tc := ⟨.hbm, 112, rfl⟩
abbrev main_call3_v8 : Ref sig .tc := ⟨.hbm, 113, rfl⟩
abbrev main_call3_v9 : Ref sig .tc := ⟨.hbm, 114, rfl⟩
abbrev main_call3_v10 : Ref sig .tc := ⟨.hbm, 115, rfl⟩
abbrev main_v59 : Ref sig .tc := ⟨.hbm, 116, rfl⟩
abbrev main_call4_v0 : Ref sig .tc := ⟨.hbm, 117, rfl⟩
abbrev main_call4_cst : Ref sig .tc := ⟨.hbm, 118, rfl⟩
abbrev main_call4_c : Ref sig .tc := ⟨.hbm, 119, rfl⟩
abbrev main_call4_v1_0 : Ref sig .tc := ⟨.hbm, 120, rfl⟩
abbrev main_v60 : Ref sig .tc := ⟨.hbm, 121, rfl⟩
abbrev main_v61 : Ref sig .tc := ⟨.hbm, 122, rfl⟩
abbrev main_c_12 : Ref sig .tc := ⟨.hbm, 123, rfl⟩
abbrev main_v62 : Ref sig .tc := ⟨.hbm, 124, rfl⟩
abbrev main_v63 : Ref sig .tc := ⟨.hbm, 125, rfl⟩
abbrev main_c_13 : Ref sig .tc := ⟨.hbm, 126, rfl⟩
abbrev main_v64 : Ref sig .tc := ⟨.hbm, 127, rfl⟩
abbrev main_v65 : Ref sig .tc := ⟨.hbm, 128, rfl⟩
abbrev main_v66 : Ref sig .tc := ⟨.hbm, 129, rfl⟩
abbrev main_c_14 : Ref sig .tc := ⟨.hbm, 130, rfl⟩
abbrev main_v67 : Ref sig .tc := ⟨.hbm, 131, rfl⟩
abbrev main_v68 : Ref sig .tc := ⟨.hbm, 132, rfl⟩
abbrev main_c_15 : Ref sig .tc := ⟨.hbm, 133, rfl⟩
abbrev main_v69 : Ref sig .tc := ⟨.hbm, 134, rfl⟩
abbrev main_v70 : Ref sig .tc := ⟨.hbm, 135, rfl⟩
abbrev main_v71 : Ref sig .tc := ⟨.hbm, 136, rfl⟩
abbrev main_v72 : Ref sig .tc := ⟨.hbm, 137, rfl⟩
abbrev main_v73 : Ref sig .tc := ⟨.hbm, 138, rfl⟩
abbrev main_v74 : Ref sig .tc := ⟨.hbm, 139, rfl⟩
abbrev main_v75 : Ref sig .tc := ⟨.hbm, 140, rfl⟩
abbrev main_v76 : Ref sig .tc := ⟨.hbm, 141, rfl⟩
abbrev main_v77 : Ref sig .tc := ⟨.hbm, 142, rfl⟩
abbrev main_v78 : Ref sig .tc := ⟨.hbm, 143, rfl⟩
abbrev main_v79 : Ref sig .tc := ⟨.hbm, 144, rfl⟩
abbrev main_cst_16 : Ref sig .tc := ⟨.hbm, 145, rfl⟩
abbrev main_call5_v0 : Ref sig .tc := ⟨.hbm, 146, rfl⟩
abbrev main_call5_v1 : Ref sig .tc := ⟨.hbm, 147, rfl⟩
abbrev main_call5_v2 : Ref sig .tc := ⟨.hbm, 148, rfl⟩
abbrev main_v80 : Ref sig .tc := ⟨.hbm, 149, rfl⟩
abbrev main_cst_17 : Ref sig .tc := ⟨.hbm, 150, rfl⟩
abbrev main_v81 : Ref sig .tc := ⟨.hbm, 151, rfl⟩
abbrev main_v82 : Ref sig .tc := ⟨.hbm, 152, rfl⟩
abbrev main_cst_18 : Ref sig .tc := ⟨.hbm, 153, rfl⟩
abbrev main_v83 : Ref sig .tc := ⟨.hbm, 154, rfl⟩
abbrev main_v84 : Ref sig .tc := ⟨.hbm, 155, rfl⟩
abbrev main_v85 : Ref sig .tc := ⟨.hbm, 156, rfl⟩
abbrev main_v86 : Ref sig .tc := ⟨.hbm, 157, rfl⟩

abbrev nD : Nat := 1
abbrev τ : Topo := Topo.v7x

variable {F : FTy → Type} [FloatOps F]
-- ==== Proof.Spec.lean ====
module

public import Idealize.ShloMosaic.Lib.Pointwise
public import Idealize.ShloMosaic.PureOps.Ideal

/-!
# One batch entry, as functions of its rows

The guide's decision for one batch entry on the extended reals: the mean of the unmasked nodes, the query, the clusters' keys and values,
the attention of eight heads of sixteen lanes, the logits, their log-softmax, the first cluster that attains its maximum and that cluster's
embedding. Both programs are read against these functions. Below them, the facts about sums against indicators, about words and about
maxima that the two readings need.
-/

@[expose] public section

set_option maxRecDepth 16384

noncomputable section

namespace Cert.Spec

open Idealize.ShloMosaic

/-! ## The functions -/

/-- A row of 128 lanes. -/
abbrev Row := Fin 128 → EReal

/-- The eight weight matrices. -/
structure Weights where
  query : Fin 384 → Fin 128 → EReal
  key : Fin 128 → Fin 128 → EReal
  value : Fin 128 → Fin 128 → EReal
  pointer : Fin 128 → Fin 128 → EReal
  queryM : Fin 128 → Fin 128 → EReal
  keyM : Fin 128 → Fin 128 → EReal
  valueM : Fin 128 → Fin 128 → EReal
  outM : Fin 128 → Fin 128 → EReal

/-- A matrix's array as a function of row and column. -/
def mat {n m : Nat} (w : (⟨2, ![n, m]⟩ : Shape).Idx → EReal) (i : Fin n) (j : Fin m) : EReal := w (ix2 i j)

/-- The weights held by eight arrays. -/
def Weights.ofArrays (wq : (⟨2, ![384, 128]⟩ : Shape).Idx → EReal) (wk wv wks wqm wkm wvm wom : (⟨2, ![128, 128]⟩ : Shape).Idx → EReal) :
    Weights := ⟨mat wq, mat wk, mat wv, mat wks, mat wqm, mat wkm, mat wvm, mat wom⟩

/-- The sum of the nodes that `mk` does not mask, over all thousand. -/
def mean (mk : Fin 1000 → BitVec 1) (node : Fin 1000 → Row) : Row := fun d =>
  Ideal.div (∑ x, Scalar.select (mk x) 0 (node x d)) (Ideal.ofBits .f32 1148846080#32)

/-- Three rows side by side. -/
def context (um cur depot : Row) (x : Fin 384) : EReal :=
  if h : x.val < 128 then um ⟨x.val, h⟩
  else if h' : x.val - 128 < 128 then cur ⟨x.val - 128, h'⟩
  else depot ⟨x.val - 128 - 128, by omega⟩

/-- A row by a matrix. -/
def times {n : Nat} (x : Fin n → EReal) (w : Fin n → Fin 128 → EReal) : Row := fun d => ∑ k, x k * w k d

/-- The masked clusters: the visited ones, the first one exactly while another is left. -/
def mask (vis : Fin 100 → BitVec 1) (c : Fin 100) : BitVec 1 :=
  if c = 0 then BitVec.ofBool (decide (∃ x, x ≠ 0 ∧ vis x ≠ 1#1)) else vis c

/-- Lane `j` of head `h` among the 128. -/
def lane (h : Fin 8) (j : Fin 16) : Fin 128 := ⟨h.val * 16 + j.val, by omega⟩

/-- The head of a lane. -/
def headOf (e : Fin 128) : Fin 8 := ⟨e.val / 16, by omega⟩

/-- Head `h`'s score of every cluster: the product of query and key over the head's lanes, by the root of sixteen; -1e9 where masked. -/
def score (q : Row) (k : Fin 100 → Row) (m : Fin 100 → BitVec 1) (h : Fin 8) (c : Fin 100) : EReal :=
  Scalar.select (m c) (Ideal.ofBits .f32 3463342888#32)
    (Ideal.div (∑ j, q (lane h j) * k c (lane h j)) (Ideal.ofBits .f32 1082130432#32))

/-- The greatest of a hundred values. -/
def top (s : Fin 100 → EReal) : EReal := Finset.univ.fold max ⊥ s

/-- The softmax of a hundred values. -/
def softmax (s : Fin 100 → EReal) (c : Fin 100) : EReal :=
  Ideal.div (Ideal.exp (s c - top s)) (∑ x, Ideal.exp (s x - top s))

/-- The heads' weighted sums of the values, side by side. -/
def attend (q : Row) (k v : Fin 100 → Row) (m : Fin 100 → BitVec 1) : Row := fun e =>
  ∑ c, softmax (score q k m (headOf e)) c * v c e

/-- The logit of every cluster: ten times the hyperbolic tangent of the scaled product with the glimpse; -1e9 where masked. -/
def logit (g : Row) (pk : Fin 100 → Row) (m : Fin 100 → BitVec 1) (c : Fin 100) : EReal :=
  Scalar.select (m c) (Ideal.ofBits .f32 3463342888#32)
    (Ideal.tanh (Ideal.div (∑ x, g x * pk c x) (Ideal.ofBits .f32 1093993715#32)) * Ideal.ofBits .f32 1092616192#32)

/-- The log-softmax of a hundred values. -/
def logSoftmax (s : Fin 100 → EReal) (c : Fin 100) : EReal :=
  (s c - top s) - Ideal.log (∑ x, Ideal.exp (s x - top s))

/-- The query of the heads. -/
def queryRow (W : Weights) (um cur depot : Row) : Row := times (times (context um cur depot) W.query) W.queryM

/-- The attention's output of one batch entry. -/
def glimpse (W : Weights) (um cur depot : Row) (ce : Fin 100 → Row) (m : Fin 100 → BitVec 1) : Row :=
  times (attend (queryRow W um cur depot) (fun c => times (times (ce c) W.key) W.keyM)
    (fun c => times (times (ce c) W.value) W.valueM) m) W.outM

/-- The log-probabilities of one batch entry's clusters. -/
def logp (W : Weights) (um cur depot : Row) (ce : Fin 100 → Row) (m : Fin 100 → BitVec 1) : Fin 100 → EReal :=
  logSoftmax (logit (glimpse W um cur depot ce m) (fun c => times (ce c) W.pointer) m)

/-- Some index attains the maximum of a hundred values, and no earlier one does. -/
theorem exists_first (s : Fin 100 → EReal) : ∃ g, (∀ c, s c ≤ s g) ∧ ∀ c, s c = s g → g ≤ c := by
  obtain ⟨p, -, hp⟩ := Finset.exists_max_image Finset.univ s Finset.univ_nonempty
  obtain ⟨g, hg, hmin⟩ := Finset.exists_min_image (Finset.univ.filter fun c => s c = s p) id ⟨p, by simp⟩
  rw [Finset.mem_filter] at hg
  exact ⟨g, fun c => hg.2 ▸ hp c (Finset.mem_univ c), fun c hc => hmin c (by simp [hc, hg.2])⟩

/-- The first index that attains the maximum. -/
def first (s : Fin 100 → EReal) : Fin 100 := (exists_first s).choose

/-- The value at the first maximum is the greatest. -/
theorem le_first (s : Fin 100 → EReal) (c : Fin 100) : s c ≤ s (first s) := (exists_first s).choose_spec.1 c

/-- No earlier index attains the maximum. -/
theorem first_le (s : Fin 100 → EReal) (c : Fin 100) (h : s c = s (first s)) : first s ≤ c := (exists_first s).choose_spec.2 c h

/-- The four rows of the augmented context side by side. -/
def augmented (um cur ge depot : Row) (x : Fin 512) : EReal :=
  if h : x.val < 128 then um ⟨x.val, h⟩
  else if h' : x.val - 128 < 128 then cur ⟨x.val - 128, h'⟩
  else if h'' : x.val - 128 - 128 < 128 then ge ⟨x.val - 128 - 128, h''⟩
  else depot ⟨x.val - 128 - 128 - 128, by omega⟩

/-! ## Maxima -/

/-- The literal of negative infinity. -/
theorem bot_lit : Ideal.ofBits .f32 4286578688#32 = ⊥ := by
  simp [Ideal.ofBits, Ideal.ieee]

/-- No value exceeds the greatest. -/
theorem le_top (s : Fin 100 → EReal) (c : Fin 100) : s c ≤ top s :=
  Finset.le_fold_max (s c) |>.2 (.inr ⟨c, Finset.mem_univ c, le_refl _⟩)

/-- The greatest value is the one at the first index that attains it. -/
theorem top_eq (s : Fin 100 → EReal) : top s = s (first s) :=
  le_antisymm (Finset.fold_max_le _ |>.2 ⟨bot_le, fun c _ => le_first s c⟩) (le_top s _)

/-! ## Indicators -/

/-- A flag is down or up. -/
theorem flag_cases : ∀ b : BitVec 1, b = 0#1 ∨ b = 1#1 := by decide

/-- A flag, widened and converted to a float, is one where it holds and zero elsewhere. -/
theorem flag_float (b : BitVec 1) : (FloatOps.sitofp .f32 (BitVec.setWidth 32 b) : Ideal .f32) = if b = 1#1 then (1 : EReal) else 0 := by
  show (((BitVec.setWidth 32 b).toInt : ℝ) : EReal) = _
  rcases flag_cases b with rfl | rfl <;> simp

/-- A choice by a flag. -/
theorem select_eq {α : Type} (c : BitVec 1) (x y : α) : Scalar.select c x y = if c = 1#1 then x else y := rfl

/-- Small numbers are equal when their words are. -/
theorem cmpi_small (i j : Nat) (hi : i < 1000) (hj : j < 1000) :
    IntOp.cmpi .eq (BitVec.ofNat 32 i) (BitVec.ofNat 32 j) = 1#1 ↔ i = j := by
  show BitVec.ofBool (BitVec.ofNat 32 i == BitVec.ofNat 32 j) = 1#1 ↔ i = j
  constructor
  · intro h
    have h' : BitVec.ofNat 32 i = BitVec.ofNat 32 j := by
      by_contra hn
      rw [beq_eq_false_iff_ne.2 hn] at h
      exact absurd h (by decide)
    have := congrArg BitVec.toNat h'
    rw [BitVec.toNat_ofNat, BitVec.toNat_ofNat] at this
    omega
  · rintro rfl
    rw [beq_self_eq_true]; rfl

/-- A flag as a number: one where it holds. -/
def num (w : BitVec 1) : EReal := if w = 1#1 then 1 else 0

/-- A proposition's flag holds where it does. -/
theorem ofBool_iff (p : Prop) [Decidable p] : BitVec.ofBool (decide p) = 1#1 ↔ p := by
  by_cases h : p <;> simp [h]

/-- A sum over the 128 lanes of what lies in one head is the sum over the head's sixteen. -/
theorem sum_head (f : Row) (h : Fin 8) : ∑ e, (if headOf e = h then f e else 0) = ∑ j, f (lane h j) := by
  rw [← Finset.sum_filter]
  refine (Finset.sum_bij (fun j _ => lane h j) (fun j _ => ?_) (fun i _ j _ e => ?_) (fun e he => ?_) (fun _ _ => rfl)).symm
  · rw [Finset.mem_filter]
    refine ⟨Finset.mem_univ _, Fin.ext ?_⟩
    show (h.val * 16 + j.val) / 16 = h.val
    omega
  · have := congrArg Fin.val e
    simp only [lane] at this
    exact Fin.ext (by omega)
  · rw [Finset.mem_filter] at he
    refine ⟨⟨e.val % 16, by omega⟩, Finset.mem_univ _, Fin.ext ?_⟩
    have := congrArg Fin.val he.2
    simp only [headOf] at this
    show h.val * 16 + e.val % 16 = e.val
    omega

/-! ## The mask -/

/-- A conjunction of flags holds exactly when each of them does. -/
theorem fold_andi {n : Nat} (f : Fin n → BitVec 1) : Finset.univ.fold IntOp.andi 1#1 f = 1#1 ↔ ∀ x, f x = 1#1 := by
  have h := Finset.fold_op_rel_iff_and (op := IntOp.andi (w := 1)) (r := fun _ y => y = 1#1) (b := 1#1) (f := f) (s := Finset.univ) (c := 0#1)
    (fun {x y z} => by simp only [IntOp.andi]; revert y z; decide)
  simpa using h

/-- Taking a finite number from a sum that holds it leaves the rest. -/
theorem add_sub_self (r : ℝ) (x : EReal) : (r : EReal) + x - r = x := by
  rw [add_comm]; exact EReal.add_sub_cancel_right

/-- What is not visited, summed over all clusters but the first: zero exactly when they are all visited. -/
theorem rest_eq_zero (vis : Fin 100 → BitVec 1) :
    (∑ x, (1 - num (vis x))) - (1 - num (vis 0)) = 0 ↔ ¬ ∃ x, x ≠ 0 ∧ vis x ≠ 1#1 := by
  have e : ∀ x, (1 - num (vis x)) = ((if vis x = 1#1 then 0 else 1 : ℝ) : EReal) := fun x => by
    unfold num
    split
    · rw [← EReal.coe_one, ← EReal.coe_sub, sub_self]
    · rw [sub_zero, EReal.coe_one]
  simp only [e]
  rw [Fin.sum_univ_succ, add_sub_self, Finset.sum_eq_zero_iff_of_nonneg fun x _ => by split <;> norm_num]
  constructor
  · rintro h ⟨x, hx, hv⟩
    obtain ⟨y, rfl⟩ := Fin.exists_succ_eq.2 hx
    have := h y (Finset.mem_univ y)
    rw [if_neg hv] at this
    norm_num at this
  · intro h y _
    rw [if_pos (by_contra fun hv => h ⟨y.succ, Fin.succ_ne_zero y, hv⟩)]
    rfl

/-! ## The first maximum as programs find it -/

/-- The least of two words, read signed. -/
theorem toInt_minsi (x y : BitVec 32) : (IntOp.minsi x y).toInt = min x.toInt y.toInt := by
  unfold IntOp.minsi
  split
  · next h => rw [BitVec.slt_iff_toInt_lt] at h; rw [min_eq_left (by omega)]
  · next h => rw [BitVec.slt_iff_toInt_lt] at h; rw [min_eq_right (by omega)]

/-- A small number's word, read signed, is the number. -/
theorem toInt_small (n : Nat) (h : n < 1000) : (BitVec.ofNat 32 n).toInt = n := by
  have e : (BitVec.ofNat 32 n).toNat = n := by rw [BitVec.toNat_ofNat]; omega
  rw [BitVec.toInt_eq_toNat_of_lt (by omega), e]

/-- The least word, read signed, among the indices of the maxima and a hundred elsewhere is the first maximum's index. -/
theorem fold_minsi (s : Fin 100 → EReal) :
    Finset.univ.fold IntOp.minsi 2147483647#32 (fun x : Fin 100 => if s x = top s then BitVec.ofNat 32 x.val else 100#32)
      = BitVec.ofNat 32 (first s).val := by
  apply BitVec.eq_of_toInt_eq
  rw [← Finset.fold_hom (op' := min) (m := BitVec.toInt) toInt_minsi]
  have hg := (first s).isLt
  have hw := toInt_small (first s).val (by omega)
  refine le_antisymm (Finset.fold_min_le _ |>.2 (.inr ⟨first s, Finset.mem_univ _, ?_⟩)) (Finset.le_fold_min _ |>.2 ⟨?_, fun x _ => ?_⟩)
  · rw [if_pos (top_eq s).symm]
  · have : (2147483647#32).toInt = 2147483647 := by decide
    omega
  · split
    · next h =>
      have := Fin.le_def.1 (first_le s x (h.trans (top_eq s)))
      rw [toInt_small x.val (by omega)]
      omega
    · have : (100#32).toInt = 100 := by decide
      omega

end Cert.Spec
-- ==== Proof.KerAt.lean ====
module

public import proofs.«01_k».proof.Proof.Gen.KernelIdeal.Value
public import proofs.«01_k».proof.Proof.Spec

/-!
# What one grid point computes, batch entry by batch entry

The kernel's payloads over the blocks of one grid point, read at batch entry `b` of the block, as the functions of the entry's rows. Of the
blocks computed before the launch three facts are assumed: the kept nodes and the visited clusters come as zeros and ones.
-/

@[expose] public section

set_option maxRecDepth 16384

noncomputable section

namespace Cert.KerAt

open Idealize.ShloMosaic Idealize.ShloMosaic.TcCoe Idealize.SL.Sem
open Cert.KernelIdeal Cert.KernelIdeal.Gen

/-- Whether lane `e` lies in head `h`, in the kernel's words: the floor of `e` by sixteen, against `h`. -/
def headWord (e : Fin 128) (h : Fin 8) : BitVec 1 :=
  IntOp.cmpi .eq
    (Scalar.select
      (IntOp.andi
        (IntOp.cmpi .ne
          (IntOp.subi (BitVec.setWidth 32 (IntOp.cmpi .sgt (BitVec.ofNat 32 e.val) 0#32))
            (BitVec.setWidth 32 (IntOp.cmpi .slt (BitVec.ofNat 32 e.val) 0#32)))
          (Scalar.subi (Scalar.extui (Scalar.cmpi .sgt 16#32 0#32)) (Scalar.extui (Scalar.cmpi .slt 16#32 0#32))))
        (IntOp.cmpi .ne (IntOp.remsi .vector (BitVec.ofNat 32 e.val) 16#32) 0#32))
      (IntOp.subi (IntOp.divsi .vector (BitVec.ofNat 32 e.val) 16#32) 1#32)
      (IntOp.divsi .vector (BitVec.ofNat 32 e.val) 16#32))
    (BitVec.ofNat 32 h.val)

/-- The word holds exactly where the lane lies in the head. -/
theorem headWord_eq : ∀ (e : Fin 128) (h : Fin 8), headWord e h = if Spec.headOf e = h then 1#1 else 0#1 := by
  decide +kernel

/-- The head table's entries are these words. -/
theorem pay9_at (e : Fin 128) (h : Fin 8) : k0_pay9 (ix2 e h) = headWord e h := by
  pointwise [k0_pay9, headWord]

/-- The word as a float. -/
theorem head_float (e : Fin 128) (h : Fin 8) :
    (FloatOps.sitofp .f32 (BitVec.setWidth 32 (headWord e h)) : Ideal .f32) = if Spec.headOf e = h then (1 : EReal) else 0 := by
  rw [Spec.flag_float, headWord_eq]
  by_cases q : Spec.headOf e = h
  · rw [if_pos q, if_pos q, if_pos rfl]
  · rw [if_neg q, if_neg q, if_neg (by decide)]

/-- The pointer's attention, before clipping and masking: the heads' outputs, of which each lane takes its own head's, through the output
    matrix, against the clusters' pointer keys. -/
theorem pay12_at (ce : FVec Ideal S32x100x128 .bf16) (o : FVec Ideal S32x8x128 .f32) (wom wks : Vec Ideal S128x128 .f32) (b : Fin 32) (c : Fin 100) :
    k0_pay12 ce (iota .tc S128x8 32 [0] iota_S128x8_d0_w32) (iota .tc S128x8 32 [1] iota_S128x8_d1_w32) o 16#32 wom wks (ix2 b c)
      = Ideal.tanh (Ideal.div (∑ x, Spec.times (fun e => o (ix3 b (Spec.headOf e) e)) (Spec.mat wom) x
          * Spec.times (fun e => ce (ix3 b c e)) (Spec.mat wks) x) (Ideal.ofBits .f32 1093993715#32)) := by
  pointwise [k0_pay12]
  refine congrArg Ideal.tanh (congrArg (Ideal.div · _) (Finset.sum_congr rfl fun x _ => ?_))
  rw [mul_comm]
  refine congrArg₂ (· * ·) (Finset.sum_congr rfl fun e _ => congrArg (· * _) ?_) rfl
  refine (Finset.sum_congr rfl fun h _ => congrArg (o (ix3 b h e) * ·) (head_float e h)).trans ?_
  simp only [mul_ite, mul_one, mul_zero, Finset.sum_ite_eq, Finset.mem_univ, if_true]

/-- Whether cluster `c` is masked, as the kernel computes it: from the visited clusters as zeros and ones, the first one's place taken by
    whether another is left. -/
theorem pay10_at (v : Vec Ideal S32x100x1 .f32) (b : Fin 32) (vis : Fin 100 → BitVec 1) (hv : ∀ c, v (ix3 b c 0) = Spec.num (vis c))
    (c : Fin 100) : (0 : EReal) < k0_pay10 v (ix3 b c 0) ↔ Spec.mask vis c = 1#1 := by
  have e : k0_pay10 v (ix3 b c 0) = if c = 0 then 1 - (if ¬ ∃ x, x ≠ 0 ∧ vis x ≠ 1#1 then 1 else 0) else Spec.num (vis c) := by
    pointwise [k0_pay10]
    simp only [hv, Spec.flag_float, Spec.select_eq, Spec.rest_eq_zero, Spec.ofBool_iff]
    refine if_congr ?_ rfl rfl
    rw [Spec.cmpi_small c.val 0 (by omega) (by omega), Fin.ext_iff]; rfl
  rw [e]
  unfold Spec.mask
  have pos : (0 : EReal) < 1 := zero_lt_one
  by_cases hc : c = 0
  · rw [if_pos hc, if_pos hc, Spec.ofBool_iff]
    by_cases h : ∃ x, x ≠ 0 ∧ vis x ≠ 1#1
    · rw [if_neg (not_not.2 h), sub_zero]; exact iff_of_true pos h
    · rw [if_pos h]
      refine iff_of_false ?_ h
      rw [← EReal.coe_one, ← EReal.coe_sub, sub_self]; exact lt_irrefl _
  · rw [if_neg hc, if_neg hc]
    unfold Spec.num
    by_cases h : vis c = 1#1
    · rw [if_pos h]; exact iff_of_true pos h
    · rw [if_neg h]; exact iff_of_false (lt_irrefl _) h

/-- The heads' outputs over all 128 lanes: the clusters' values by the softmax of the head's scores. -/
theorem pay11_at (q : FVec Ideal S32x128 .f32) (k w : FVec Ideal S32x100x128 .f32) (v : Vec Ideal S32x100x1 .f32) (b : Fin 32)
    (m : Fin 100 → BitVec 1) (hm : ∀ c, (0 : EReal) < k0_pay10 v (ix3 b c 0) ↔ m c = 1#1) (h : Fin 8) (d : Fin 128) :
    k0_pay11 q k w k0_pay9 v (ix3 b h d)
      = ∑ c, Spec.softmax (Spec.score (fun e => q (ix2 b e)) (fun c e => k (ix3 b c e)) m h) c * w (ix3 b c d) := by
  have hs : ∀ c, Ideal.div (∑ e, k (ix3 b c e) * q (ix2 b e) * (if Spec.headOf e = h then (1 : EReal) else 0)) (Ideal.ofBits .f32 1082130432#32)
      = Ideal.div (∑ j, q (ix2 b (Spec.lane h j)) * k (ix3 b c (Spec.lane h j))) (Ideal.ofBits .f32 1082130432#32) := fun c => by
    simp only [mul_ite, mul_one, mul_zero]
    rw [Spec.sum_head (fun e => k (ix3 b c e) * q (ix2 b e)) h]
    simp only [mul_comm]
  pointwise [k0_pay11, Spec.softmax, Spec.top, Spec.score]
  simp only [pay9_at, head_float, hs, hm, Spec.bot_lit, Spec.select_eq]

/-- The log-probabilities. -/
theorem pay13_at (v : FVec Ideal S32x100x1 .f32) (t : FVec Ideal S32x100 .f32) (b : Fin 32)
    (m : Fin 100 → BitVec 1) (hm : ∀ c, (0 : EReal) < v (ix3 b c 0) ↔ m c = 1#1) (c : Fin 100) :
    k0_pay13 v t (ix2 b c) = Spec.logSoftmax (fun c => Scalar.select (m c) (Ideal.ofBits .f32 3463342888#32)
      (t (ix2 b c) * Ideal.ofBits .f32 1092616192#32)) c := by
  pointwise [k0_pay13, Spec.logSoftmax, Spec.top]
  simp only [hm, Spec.bot_lit, Spec.select_eq]

/-- The choice: the first cluster that attains the maximum of the log-probabilities. -/
theorem pay14_at (v : FVec Ideal S32x100x1 .f32) (t : FVec Ideal S32x100 .f32) (b : Fin 32) (z : Fin 1) :
    k0_pay14 v t (ix2 b z) = BitVec.ofNat 32 (Spec.first fun c => k0_pay13 v t (ix2 b c)).val := by
  rw [← Spec.fold_minsi]
  pointwise [k0_pay14, Spec.top]
  simp only [Spec.bot_lit]
  exact Finset.fold_congr fun x _ => if_congr Iff.rfl rfl rfl

/-- The chosen cluster's embedding. -/
theorem pay15_at (ce : Vec Ideal S32x100x128 .f32) (v : FVec Ideal S32x100x1 .f32) (t : FVec Ideal S32x100 .f32) (b : Fin 32) (d : Fin 128) :
    k0_pay15 ce v t (ix2 b d) = ce (ix3 b (Spec.first fun c => k0_pay13 v t (ix2 b c)) d) := by
  pointwise [k0_pay15]
  simp only [pay14_at, Spec.flag_float]
  generalize Spec.first _ = g
  rw [Finset.sum_eq_single g]
  · rw [if_pos ((Spec.cmpi_small _ _ (by omega) (by omega)).2 rfl), mul_one]
  · intro x _ hx
    rw [if_neg fun h => hx (Fin.ext ((Spec.cmpi_small _ _ (by omega) (by omega)).1 h)), mul_zero]
  · exact fun h => absurd (Finset.mem_univ _) h

/-- The stored embedding is the chosen cluster's. -/
theorem pay16_at (ce : Vec Ideal S32x100x128 .f32) (v : FVec Ideal S32x100x1 .f32) (t : FVec Ideal S32x100 .f32) (b : Fin 32) (z : Fin 1)
    (d : Fin 128) : k0_pay16 ce v t (ix3 b z d) = k0_pay15 ce v t (ix2 b d) := by
  pointwise [k0_pay16]

/-- The augmented context. -/
theorem pay17_at (um cur depot : FVec Ideal S32x128 .f32) (ce : Vec Ideal S32x100x128 .f32) (v : FVec Ideal S32x100x1 .f32)
    (t : FVec Ideal S32x100 .f32) (b : Fin 32) (z : Fin 1) (x : Fin 512) :
    k0_pay17 um cur depot ce v t (ix3 b z x) = Spec.augmented (fun d => um (ix2 b d)) (fun d => cur (ix2 b d))
      (fun d => k0_pay15 ce v t (ix2 b d)) (fun d => depot (ix2 b d)) x := by
  pointwise [k0_pay17, Spec.augmented]

/-- A masked sum over the nodes: the product with the kept nodes' ones, its second, smaller part vanishing on finite nodes. -/
theorem pay1_at (node : Vec Ideal S32x1000x128 .f32) (keep : Vec Ideal S32x2x1000 .f32) (b : Fin 32) (z : Fin 2) (d : Fin 128)
    (mk : Fin 1000 → BitVec 1) (hk : ∀ x, keep (ix3 b z x) = Spec.num (~~~ mk x))
    (hn : ∀ x, node (ix3 b x d) ≠ (⊤ : EReal) ∧ node (ix3 b x d) ≠ (⊥ : EReal)) :
    k0_pay1 node keep (ix3 b z d) = ∑ x, Scalar.select (mk x) 0 (node (ix3 b x d)) := by
  pointwise [k0_pay1]
  have h0 : ∀ x, node (ix3 b x d) - node (ix3 b x d) = (0 : EReal) := fun x => EReal.sub_self (hn x).1 (hn x).2
  simp only [h0, mul_zero, Finset.sum_const_zero, add_zero, hk]
  refine Finset.sum_congr rfl fun x _ => ?_
  rw [Spec.select_eq]
  unfold Spec.num
  rcases Spec.flag_cases (mk x) with h | h
  · rw [h, if_pos (by decide), if_neg (by decide), one_mul]
  · rw [h, if_neg (by decide), if_pos rfl, zero_mul]

/-- The means of the two masks: the query's and the augmented context's. -/
theorem pay2_at (node : Vec Ideal S32x1000x128 .f32) (keep : Vec Ideal S32x2x1000 .f32) (b : Fin 32) (d : Fin 128)
    (mk : Fin 1000 → BitVec 1) (hk : ∀ x, keep (ix3 b 1 x) = Spec.num (~~~ mk x))
    (hn : ∀ x d, node (ix3 b x d) ≠ (⊤ : EReal) ∧ node (ix3 b x d) ≠ (⊥ : EReal)) :
    k0_pay2 node keep (ix2 b d) = Spec.mean mk (fun x d => node (ix3 b x d)) d := by
  pointwise [k0_pay2, Spec.mean]
  rw [pay1_at node keep b 1 d mk hk fun x => hn x d]

/-- The current node's row. -/
theorem pay3_at (x : Vec Ideal S32x1x128 .f32) (b : Fin 32) (d : Fin 128) : k0_pay3 x (ix2 b d) = x (ix3 b 0 d) := by
  pointwise [k0_pay3]

/-- The depot's row. -/
theorem pay4_at (x : Vec Ideal S32x1x128 .f32) (b : Fin 32) (d : Fin 128) : k0_pay4 x (ix2 b d) = x (ix3 b 0 d) := by
  pointwise [k0_pay4]

/-- The query of the heads. -/
theorem pay5_at (node : Vec Ideal S32x1000x128 .f32) (keep : Vec Ideal S32x2x1000 .f32) (cur depot : Vec Ideal S32x1x128 .f32)
    (wq : Vec Ideal S384x128 .f32) (wqm : Vec Ideal S128x128 .f32) (b : Fin 32) (d : Fin 128)
    (mk : Fin 1000 → BitVec 1) (hk : ∀ x, keep (ix3 b 0 x) = Spec.num (~~~ mk x))
    (hn : ∀ x d, node (ix3 b x d) ≠ (⊤ : EReal) ∧ node (ix3 b x d) ≠ (⊥ : EReal)) :
    k0_pay5 node keep cur depot wq wqm (ix2 b d)
      = Spec.times (Spec.times (Spec.context (Spec.mean mk fun x d => node (ix3 b x d)) (fun d => cur (ix3 b 0 d))
          (fun d => depot (ix3 b 0 d))) (Spec.mat wq)) (Spec.mat wqm) d := by
  pointwise [k0_pay5, Spec.times, Spec.context, Spec.mean, Spec.mat]
  simp only [pay3_at, pay4_at, fun d => pay1_at node keep b 0 d mk hk fun x => hn x d]

/-- The keys. -/
theorem pay7_at (ce : Vec Ideal S32x100x128 .f32) (w w' : Vec Ideal S128x128 .f32) (b : Fin 32) (c : Fin 100) (d : Fin 128) :
    k0_pay7 (k0_pay6 ce) w w' (ix3 b c d) = Spec.times (Spec.times (fun e => ce (ix3 b c e)) (Spec.mat w)) (Spec.mat w') d := by
  pointwise [k0_pay7, k0_pay6, Spec.times, Spec.mat]

/-- The values. -/
theorem pay8_at (ce : Vec Ideal S32x100x128 .f32) (w w' : Vec Ideal S128x128 .f32) (b : Fin 32) (c : Fin 100) (d : Fin 128) :
    k0_pay8 (k0_pay6 ce) w w' (ix3 b c d) = Spec.times (Spec.times (fun e => ce (ix3 b c e)) (Spec.mat w)) (Spec.mat w') d := by
  pointwise [k0_pay8, k0_pay6, Spec.times, Spec.mat]

section Block

variable (keep : Vec Ideal S32x2x1000 .f32) (node : Vec Ideal S32x1000x128 .f32) (ce : Vec Ideal S32x100x128 .f32)
  (v : Vec Ideal S32x100x1 .f32) (cur depot : Vec Ideal S32x1x128 .f32) (wq : Vec Ideal S384x128 .f32)
  (wk wv wks wqm wkm wvm wom : Vec Ideal S128x128 .f32)

/-- The clipped logits of a block before the masking, the payloads composed. -/
def clipped : FVec Ideal S32x100 .f32 :=
  k0_pay12 (k0_pay6 ce) (iota .tc S128x8 32 [0] iota_S128x8_d0_w32) (iota .tc S128x8 32 [1] iota_S128x8_d1_w32)
    (k0_pay11 (k0_pay5 node keep cur depot wq wqm) (k0_pay7 (k0_pay6 ce) wk wkm) (k0_pay8 (k0_pay6 ce) wv wvm) k0_pay9 v) 16#32 wom wks

/-- The heads' outputs of a block's entry `b`: the attention of its rows. -/
theorem attend_at (b : Fin 32) (mk : Fin 1000 → BitVec 1) (vis : Fin 100 → BitVec 1)
    (hk : ∀ x, keep (ix3 b 0 x) = Spec.num (~~~ mk x)) (hv : ∀ c, v (ix3 b c 0) = Spec.num (vis c))
    (hn : ∀ x d, node (ix3 b x d) ≠ (⊤ : EReal) ∧ node (ix3 b x d) ≠ (⊥ : EReal)) (e : Fin 128) :
    k0_pay11 (k0_pay5 node keep cur depot wq wqm) (k0_pay7 (k0_pay6 ce) wk wkm) (k0_pay8 (k0_pay6 ce) wv wvm) k0_pay9 v
        (ix3 b (Spec.headOf e) e)
      = Spec.attend (Spec.queryRow (.ofArrays wq wk wv wks wqm wkm wvm wom) (Spec.mean mk fun x d => node (ix3 b x d))
          (fun d => cur (ix3 b 0 d)) (fun d => depot (ix3 b 0 d)))
        (fun c => Spec.times (Spec.times (fun d => ce (ix3 b c d)) (Spec.mat wk)) (Spec.mat wkm))
        (fun c => Spec.times (Spec.times (fun d => ce (ix3 b c d)) (Spec.mat wv)) (Spec.mat wvm)) (Spec.mask vis) e := by
  have hq : (fun d => k0_pay5 node keep cur depot wq wqm (ix2 b d)) = Spec.queryRow (.ofArrays wq wk wv wks wqm wkm wvm wom)
      (Spec.mean mk fun x d => node (ix3 b x d)) (fun d => cur (ix3 b 0 d)) (fun d => depot (ix3 b 0 d)) :=
    funext fun d => pay5_at node keep cur depot wq wqm b d mk hk hn
  have hy : (fun c d => k0_pay7 (k0_pay6 ce) wk wkm (ix3 b c d))
      = fun c => Spec.times (Spec.times (fun d => ce (ix3 b c d)) (Spec.mat wk)) (Spec.mat wkm) :=
    funext fun c => funext fun d => pay7_at ce wk wkm b c d
  refine (pay11_at _ _ _ v b _ (pay10_at v b vis hv) _ e).trans ?_
  rw [hq, hy]
  exact Finset.sum_congr rfl fun c _ => congrArg (_ * ·) (pay8_at ce wv wvm b c e)

/-- The log-probabilities of a block's entry `b` are those of its rows. -/
theorem logp_at (b : Fin 32) (mk : Fin 1000 → BitVec 1) (vis : Fin 100 → BitVec 1)
    (hk : ∀ x, keep (ix3 b 0 x) = Spec.num (~~~ mk x)) (hv : ∀ c, v (ix3 b c 0) = Spec.num (vis c))
    (hn : ∀ x d, node (ix3 b x d) ≠ (⊤ : EReal) ∧ node (ix3 b x d) ≠ (⊥ : EReal)) (c : Fin 100) :
    k0_pay13 (k0_pay10 v) (clipped keep node ce v cur depot wq wk wv wks wqm wkm wvm wom) (ix2 b c)
      = Spec.logp (.ofArrays wq wk wv wks wqm wkm wvm wom) (Spec.mean mk fun x d => node (ix3 b x d)) (fun d => cur (ix3 b 0 d))
          (fun d => depot (ix3 b 0 d)) (fun c d => ce (ix3 b c d)) (Spec.mask vis) c := by
  refine (pay13_at _ _ b _ (pay10_at v b vis hv) c).trans ?_
  have ha := funext fun e => attend_at keep node ce v cur depot wq wk wv wks wqm wkm wvm wom b mk vis hk hv hn e
  have hl : ∀ c, clipped keep node ce v cur depot wq wk wv wks wqm wkm wvm wom (ix2 b c) = _ := fun c => pay12_at _ _ wom wks b c
  rw [ha] at hl
  unfold Spec.logp
  refine congrFun (congrArg Spec.logSoftmax (funext fun c => ?_)) c
  rw [hl c]
  rfl

end Block

end Cert.KerAt
-- ==== Proof.RefRun.lean ====
/- The reference program's run: the stages of its computation as named functions of whole arrays, and the theorem
   that every execution ends with the four results at the stages' composition. -/
module

public import proofs.«01_k».proof.Proof.Gen.ReferenceIdeal
public import Idealize.ShloMosaic.Lib.Claim
public import Idealize.ShloMosaic.PureOps.Ideal

@[expose] public section

set_option maxRecDepth 16384

noncomputable section

namespace Cert.RefRun

open Idealize.ShloMosaic Idealize.ShloMosaic.TcCoe Idealize.SL.Sem
open Cert.ReferenceIdeal Cert.ReferenceIdeal.Gen Cert.ReferenceIdeal.Facts

/-- The mean over the 1000 nodes of the nodes that the mask leaves, the others counted as zero. -/
def meanOf (mk : IVec S128x1x1000 1) (node : FVec Ideal S128x1000x128 .f32) : FVec Ideal S128x1x128 .f32 :=
  Host.divf
    (broadcastInDim S128x1x128 ![0, 2] bcast_S128x128_S128x1x128_0_2
      (Host.reduceAdd
        (select
          (broadcastInDim S128x1000x128 ![0, 1, 2] bcast_S128x1000x1_S128x1000x128_0_1_2
            (broadcastInDim S128x1000x1 ![0, 1] bcast_S128x1000_S128x1000x1_0_1
              (shapeCast S128x1000 mk shapeCasts_S128x1x1000_S128x1000)))
          (broadcastInDim S128x1000x128 ![] bcast_S_S128x1000x128 (constant S_ .f32 0x00000000#32))
          node)
        (constant S_ .f32 0x00000000#32) reducesTo_S128x1000x128_S128x128_d1 h_S_))
    (broadcastInDim S128x1x128 ![] bcast_S_S128x1x128 (constant S_ .f32 0x447A0000#32))

/-- The product of every cluster's embedding with one weight matrix. -/
def proj (x : FVec Ideal S128x100x128 .f32) (w : FVec Ideal S128x128 .f32) : FVec Ideal S128x100x128 .f32 :=
  Host.dotGeneral dot_S128x100x128_S128x128_S128x100x128_2_0_01_1_n_n none x w

/-- The product of one row a batch entry with one weight matrix. -/
def proj1 (x : FVec Ideal S128x1x128 .f32) (w : FVec Ideal S128x128 .f32) : FVec Ideal S128x1x128 .f32 :=
  Host.dotGeneral dot_S128x1x128_S128x128_S128x1x128_2_0_01_1_n_n none x w

/-- The query: the context of three rows side by side through the query weights. -/
def query (um cur depot : FVec Ideal S128x1x128 .f32) (wq : FVec Ideal S384x128 .f32) : FVec Ideal S128x1x128 .f32 :=
  Host.dotGeneral dot_S128x1x384_S384x128_S128x1x128_2_0_01_1_n_n none
    (concatenate S128x1x384 2 [⟨S128x1x128, um⟩, ⟨S128x1x128, cur⟩, ⟨S128x1x128, depot⟩]
      concatenates_S128x1x128_S128x1x128_S128x1x128_S128x1x384_d2) wq

/-- The index of the mask's first column. -/
def origin : IVec S2 32 :=
  concatenate S2 0 [⟨S1, broadcastInDim S1 ![] bcast_S_S1 (constantI S_ 32 0#32)⟩,
    ⟨S1, broadcastInDim S1 ![] bcast_S_S1 (constantI S_ 32 0#32)⟩] concatenates_S1_S1_S2_d0

/-- Whether not every cluster but the first has been visited, a batch entry. -/
def someLeft (vis : IVec S128x1x100 1) : IVec S128 1 :=
  noti (Host.reduce IntOp.andi
    (shapeCast S128x99 (extractStridedSlice S128x1x99 ![0, 0, 1] vis slices_S128x1x100_S128x1x99_0_0_1)
      shapeCasts_S128x1x99_S128x99)
    (constantI S_ 1 1#1) reducesTo_S128x99_S128_d1 h_S_)

/-- The mask of the clusters: the visited ones, the first masked exactly while another is left. -/
def clusterMask (vis : IVec S128x1x100 1) : IVec S128x1x100 1 :=
  Host.scatter scatter_S128x1x100_S2_S128_0_12_12_0 (fun _ b => b) vis origin (someLeft vis)

/-- A row's 128 lanes as eight heads of sixteen. -/
def heads1 (x : FVec Ideal S128x1x128 .f32) : FVec Ideal S128x8x1x16 .f32 :=
  transpose S128x8x1x16 [0, 2, 1, 3] (shapeCast S128x1x8x16 x shapeCasts_S128x1x128_S128x1x8x16)
    transposes_S128x1x8x16_S128x8x1x16_0_2_1_3

/-- Every cluster's 128 lanes as eight heads of sixteen. -/
def heads (x : FVec Ideal S128x100x128 .f32) : FVec Ideal S128x8x100x16 .f32 :=
  transpose S128x8x100x16 [0, 2, 1, 3] (shapeCast S128x100x8x16 x shapeCasts_S128x100x128_S128x100x8x16)
    transposes_S128x100x8x16_S128x8x100x16_0_2_1_3

/-- The attention scores of the heads, the masked clusters at -1e9. -/
def scores (hq : FVec Ideal S128x8x1x16 .f32) (hk : FVec Ideal S128x8x100x16 .f32)
    (vm : IVec S128x1x100 1) : FVec Ideal S128x8x1x100 .f32 :=
  select
    (broadcastInDim S128x8x1x100 ![0, 1, 2, 3] bcast_S128x1x1x100_S128x8x1x100_0_1_2_3
      (broadcastInDim S128x1x1x100 ![0, 2, 3] bcast_S128x1x100_S128x1x1x100_0_2_3 vm))
    (broadcastInDim S128x8x1x100 ![] bcast_S_S128x8x1x100 (constant S_ .f32 0xCE6E6B28#32))
    (Host.divf (Host.dotGeneral dot_S128x8x1x16_S128x8x100x16_S128x8x1x100_3_3_2_2_01_01 none hq hk)
      (broadcastInDim S128x8x1x100 ![] bcast_S_S128x8x1x100 (constant S_ .f32 0x40800000#32)))

/-- The exponentials of the scores less their maximum. -/
def expScores (s : FVec Ideal S128x8x1x100 .f32) : FVec Ideal S128x8x1x100 .f32 :=
  Host.exp (subf s
    (broadcastInDim S128x8x1x100 ![0, 1, 2, 3] bcast_S128x8x1x1_S128x8x1x100_0_1_2_3
      (broadcastInDim S128x8x1x1 ![0, 1, 2] bcast_S128x8x1_S128x8x1x1_0_1_2
        (maximumf (broadcastInDim S128x8x1 ![] bcast_S_S128x8x1 (constant S_ .f32 0xFF800000#32))
          (Host.reduce FloatOps.maximumf s (constant S_ .f32 0xFF800000#32)
            reducesTo_S128x8x1x100_S128x8x1_d3 h_S_)))))

/-- The attention weights: the exponentials over their sum. -/
def weights (e : FVec Ideal S128x8x1x100 .f32) : FVec Ideal S128x8x1x100 .f32 :=
  Host.divf e
    (broadcastInDim S128x8x1x100 ![0, 1, 2, 3] bcast_S128x8x1x1_S128x8x1x100_0_1_2_3
      (broadcastInDim S128x8x1x1 ![0, 1, 2] bcast_S128x8x1_S128x8x1x1_0_1_2
        (Host.reduceAdd e (constant S_ .f32 0x00000000#32) reducesTo_S128x8x1x100_S128x8x1_d3 h_S_)))

/-- The heads' weighted values, side by side again. -/
def attended (w : FVec Ideal S128x8x1x100 .f32) (hv : FVec Ideal S128x8x100x16 .f32) :
    FVec Ideal S128x1x128 .f32 :=
  shapeCast S128x1x128
    (transpose S128x1x8x16 [0, 2, 1, 3]
      (Host.dotGeneral dot_S128x8x1x100_S128x8x100x16_S128x8x1x16_3_2_2_3_01_01 none w hv)
      transposes_S128x8x1x16_S128x1x8x16_0_2_1_3) shapeCasts_S128x1x8x16_S128x1x128

/-- The pointer's logits: clipped by the hyperbolic tangent, the masked clusters at -1e9. -/
def logits (g : FVec Ideal S128x1x128 .f32) (pk : FVec Ideal S128x100x128 .f32) (vm : IVec S128x1x100 1) :
    FVec Ideal S128x100 .f32 :=
  select (shapeCast S128x100 vm shapeCasts_S128x1x100_S128x100)
    (broadcastInDim S128x100 ![] bcast_S_S128x100 (constant S_ .f32 0xCE6E6B28#32))
    (mulf
      (Host.tanh (Host.divf
        (shapeCast S128x100
          (Host.dotGeneral dot_S128x1x128_S128x128x100_S128x1x100_2_1_1_2_0_0 none g
            (transpose S128x128x100 [0, 2, 1] pk transposes_S128x100x128_S128x128x100_0_2_1))
          shapeCasts_S128x1x100_S128x100)
        (broadcastInDim S128x100 ![] bcast_S_S128x100 (constant S_ .f32 0x413504F3#32))))
      (broadcastInDim S128x100 ![] bcast_S_S128x100 (constant S_ .f32 0x41200000#32)))

/-- The logits less their maximum. -/
def shifted (x : FVec Ideal S128x100 .f32) : FVec Ideal S128x100 .f32 :=
  subf x
    (broadcastInDim S128x100 ![0, 1] bcast_S128x1_S128x100_0_1
      (broadcastInDim S128x1 ![0] bcast_S128_S128x1_0
        (maximumf (broadcastInDim S128 ![] bcast_S_S128 (constant S_ .f32 0xFF800000#32))
          (Host.reduce FloatOps.maximumf x (constant S_ .f32 0xFF800000#32) reducesTo_S128x100_S128_d1 h_S_))))

/-- The shifted logits less the logarithm of the sum of their exponentials. -/
def logSoftmax (y : FVec Ideal S128x100 .f32) : FVec Ideal S128x100 .f32 :=
  subf y
    (broadcastInDim S128x100 ![0, 1] bcast_S128x1_S128x100_0_1
      (Host.log (broadcastInDim S128x1 ![0] bcast_S128_S128x1_0
        (Host.reduceAdd (Host.exp y) (constant S_ .f32 0x00000000#32) reducesTo_S128x100_S128_d1 h_S_))))

/-- The first cluster of the largest log-probability, a batch entry. -/
def guide (x : FVec Ideal S128x100 .f32) : IVec S128 32 := fun j =>
  (Host.argReduce reducer_argmax_f32_i32 x (iotaInDim S128x100 32 1) (constant S_ .f32 0xFF800000#32)
    (constantI S_ 32 0#32) reducesTo_S128x100_S128_d1 h_S_ j).2

/-- An index that may count from the end, as one from the front: `n` is added where it is negative. -/
def wrap (x : IVec S128 32) (n : BitVec 32) : IVec S128 32 :=
  select (cmpi .slt x (broadcastInDim S128 ![] bcast_S_S128 (constantI S_ 32 0#32)))
    (addi x (broadcastInDim S128 ![] bcast_S_S128 (constantI S_ 32 n))) x

/-- The chosen cluster's embedding, a batch entry. -/
def chosen (ce : FVec Ideal S128x100x128 .f32) (g : IVec S128 32) : FVec Ideal S128x1x128 .f32 :=
  broadcastInDim S128x1x128 ![0, 2] bcast_S128x128_S128x1x128_0_2
    (Host.gather gather_S128x100x128_S128x2_S128x128_1_01_n_n_01_1_11128 ce
      (concatenate S128x2 1
        [⟨S128x1, broadcastInDim S128x1 ![0] bcast_S128_S128x1_0 (wrap (iotaInDim S128 32 0) 128#32)⟩,
         ⟨S128x1, broadcastInDim S128x1 ![0] bcast_S128_S128x1_0 (wrap g 100#32)⟩]
        concatenates_S128x1_S128x1_S128x2_d1))

/-- The choices as a column. -/
def column (g : IVec S128 32) : IVec S128x1 32 := broadcastInDim S128x1 ![0] bcast_S128_S128x1_0 g

/-- The four rows of the augmented context side by side. -/
def augment (ucm cur ge depot : FVec Ideal S128x1x128 .f32) : FVec Ideal S128x1x512 .f32 :=
  concatenate S128x1x512 2 [⟨S128x1x128, ucm⟩, ⟨S128x1x128, cur⟩, ⟨S128x1x128, ge⟩, ⟨S128x1x128, depot⟩]
    concatenates_S128x1x128_S128x1x128_S128x1x128_S128x1x128_S128x1x512_d2

section Composed

variable (depot : FVec Ideal S128x1x128 .f32) (ce : FVec Ideal S128x100x128 .f32) (cur : FVec Ideal S128x1x128 .f32)
  (node : FVec Ideal S128x1000x128 .f32) (cm : IVec S128x1x1000 1) (vis : IVec S128x1x100 1) (mk : IVec S128x1x1000 1)
  (wq : FVec Ideal S384x128 .f32) (wk wv wks wqm wkm wvm wom : FVec Ideal S128x128 .f32)

/-- The attention's output of the arguments. -/
def glimpseOf : FVec Ideal S128x1x128 .f32 :=
  proj1 (attended (weights (expScores
    (scores (heads1 (proj1 (query (meanOf mk node) cur depot wq) wqm)) (heads (proj (proj ce wk) wkm)) (clusterMask vis))))
    (heads (proj (proj ce wv) wvm))) wom

/-- The log-probabilities of the arguments. -/
def logpOf : FVec Ideal S128x100 .f32 :=
  logSoftmax (shifted (logits (glimpseOf depot ce cur node vis mk wq wk wv wqm wkm wvm wom) (proj ce wks) (clusterMask vis)))

/-- The chosen clusters of the arguments. -/
def guideOf : IVec S128 32 := guide (logpOf depot ce cur node vis mk wq wk wv wks wqm wkm wvm wom)

/-- The chosen clusters' embeddings of the arguments. -/
def chosenOf : FVec Ideal S128x1x128 .f32 := chosen ce (guideOf depot ce cur node vis mk wq wk wv wks wqm wkm wvm wom)

/-- The augmented context of the arguments. -/
def augOf : FVec Ideal S128x1x512 .f32 :=
  augment (meanOf (ori mk cm) node) cur (chosenOf depot ce cur node vis mk wq wk wv wks wqm wkm wvm wom) depot

end Composed

/-- The reference's operations in order, with the fact that its program is their line. -/
def line : { ops : List (HloOp τ sig (Elt Ideal)) // ∀ d : Dev nD, StableHlo.IsSeq (main (F := Ideal) d) ops } := by
  apply Subtype.mk
  hlo_seq

/-- The operations of the unvisited nodes' mean. -/
def win0 : List (HloOp τ sig (Elt Ideal)) := line.1.take 13
/-- The operation of the query's product. -/
def winq : List (HloOp τ sig (Elt Ideal)) := (line.1.drop 13).take 2
/-- The operations from there to the queries, keys and values of the heads. -/
def win1 : List (HloOp τ sig (Elt Ideal)) := (line.1.drop 15).take 23
/-- The operations of the attention's scores. -/
def wins : List (HloOp τ sig (Elt Ideal)) := (line.1.drop 38).take 10
/-- The operations from the scores to the logits. -/
def win2 : List (HloOp τ sig (Elt Ideal)) := (line.1.drop 48).take 33
/-- The operations of the log-probabilities. -/
def win3 : List (HloOp τ sig (Elt Ideal)) := (line.1.drop 81).take 15
/-- The operations of the choice. -/
def win4 : List (HloOp τ sig (Elt Ideal)) := (line.1.drop 96).take 5
/-- The operations after the choice. -/
def win5 : List (HloOp τ sig (Elt Ideal)) := line.1.drop 101

/-- The program's arguments. -/
def args : List (Ref sig .tc) :=
  [main_arg0, main_arg1, main_arg2, main_arg3, main_arg4, main_arg5, main_arg6, main_arg7, main_arg8, main_arg9, main_arg10,
   main_arg11, main_arg12, main_arg13, main_arg14, main_arg15, main_arg16, main_arg17, main_arg18, main_arg19, main_arg20]

/-- No operation of the reference writes an argument. -/
theorem line_keeps : line.1.Forall fun op => ∀ r ∈ args, Proc.devRef (τ := τ) .tc r ∉ op.writes := by
  decide +kernel

/-- Every buffer of an operation is a buffer of the core. -/
theorem line_bufs : line.1.Forall fun op => op.bufs ⊆ StableHlo.tcRefs τ sig := by
  simp [line]

/-- No operation leaves its result undetermined. -/
theorem line_fresh : line.1.Forall fun op => op.fresh = ∅ := by
  simp only [line, List.Forall]
  repeat' refine And.intro ?_ ?_
  all_goals rfl

section Windows

variable (V : Valuation τ sig (Elt Ideal))

set_option maxHeartbeats 1600000 in
/-- The first window computes the mean of the nodes. -/
theorem win0_mean :
    StableHlo.after win0 V (no_index (Proc.devRef .tc main_v6)) =
      meanOf (V (Proc.devRef .tc main_arg8)) (V (Proc.devRef .tc main_arg3)) := by
  simp only [win0, line, List.take, List.drop]
  after_results_simp
  rfl

set_option maxHeartbeats 1600000 in
/-- The next computes the context's projection. -/
theorem winq_query :
    StableHlo.after winq V (no_index (Proc.devRef .tc main_v8)) = query (V (Proc.devRef .tc main_v6)) (V (Proc.devRef .tc main_arg2)) (V (Proc.devRef .tc main_arg0))
      (V (Proc.devRef .tc main_arg13)) := by
  simp only [winq, line, List.take, List.drop]
  after_results_simp
  rfl

set_option maxHeartbeats 1600000 in
/-- The window of the projections computes the heads' query. -/
theorem win1_query :
    StableHlo.after win1 V (no_index (Proc.devRef .tc main_v22)) = heads1 (proj1 (V (Proc.devRef .tc main_v8)) (V (Proc.devRef .tc main_arg17))) := by
  simp only [win1, line, List.take, List.drop]
  after_results_simp
  rfl

set_option maxHeartbeats 1600000 in
/-- It computes the heads' keys. -/
theorem win1_keys :
    StableHlo.after win1 V (no_index (Proc.devRef .tc main_v25)) =
      heads (proj (proj (V (Proc.devRef .tc main_arg1)) (V (Proc.devRef .tc main_arg14))) (V (Proc.devRef .tc main_arg18))) := by
  simp only [win1, line, List.take, List.drop]
  after_results_simp
  rfl

set_option maxHeartbeats 1600000 in
/-- The next window computes the scores. -/
theorem wins_scores :
    StableHlo.after wins V (no_index (Proc.devRef .tc main_v33)) =
      scores (V (Proc.devRef .tc main_v22)) (V (Proc.devRef .tc main_v25)) (V (Proc.devRef .tc main_v19)) := by
  simp only [wins, line, List.take, List.drop]
  after_results_simp
  rfl

set_option maxHeartbeats 1600000 in
/-- The scores' window keeps the values. -/
theorem wins_values :
    StableHlo.after wins V (no_index (Proc.devRef .tc main_v28)) = V (Proc.devRef .tc main_v28) := by
  simp only [wins, line, List.take, List.drop]
  after_results_simp

set_option maxHeartbeats 1600000 in
/-- The scores' window keeps the pointer keys. -/
theorem wins_pointer :
    StableHlo.after wins V (no_index (Proc.devRef .tc main_v11)) = V (Proc.devRef .tc main_v11) := by
  simp only [wins, line, List.take, List.drop]
  after_results_simp

set_option maxHeartbeats 1600000 in
/-- The scores' window keeps the clusters' mask. -/
theorem wins_mask :
    StableHlo.after wins V (no_index (Proc.devRef .tc main_v19)) = V (Proc.devRef .tc main_v19) := by
  simp only [wins, line, List.take, List.drop]
  after_results_simp

set_option maxHeartbeats 1600000 in
/-- The window of the projections computes the heads' values. -/
theorem win1_values :
    StableHlo.after win1 V (no_index (Proc.devRef .tc main_v28)) =
      heads (proj (proj (V (Proc.devRef .tc main_arg1)) (V (Proc.devRef .tc main_arg15))) (V (Proc.devRef .tc main_arg19))) := by
  simp only [win1, line, List.take, List.drop]
  after_results_simp
  rfl

set_option maxHeartbeats 1600000 in
/-- It computes the pointer keys. -/
theorem win1_pointer :
    StableHlo.after win1 V (no_index (Proc.devRef .tc main_v11)) =
      proj (V (Proc.devRef .tc main_arg1)) (V (Proc.devRef .tc main_arg16)) := by
  simp only [win1, line, List.take, List.drop]
  after_results_simp
  rfl

set_option maxHeartbeats 1600000 in
/-- It computes the clusters' mask. -/
theorem win1_mask :
    StableHlo.after win1 V (no_index (Proc.devRef .tc main_v19)) = clusterMask (V (Proc.devRef .tc main_arg7)) := by
  simp only [win1, line, List.take, List.drop]
  after_results_simp
  rfl

set_option maxHeartbeats 1600000 in
/-- The next window computes the logits. -/
theorem win2_logits :
    StableHlo.after win2 V (no_index (Proc.devRef .tc main_v58)) =
      logits (proj1 (attended (weights (expScores (V (Proc.devRef .tc main_v33)))) (V (Proc.devRef .tc main_v28)))
        (V (Proc.devRef .tc main_arg20))) (V (Proc.devRef .tc main_v11)) (V (Proc.devRef .tc main_v19)) := by
  simp only [win2, line, List.take, List.drop]
  after_results_simp
  rfl

set_option maxHeartbeats 1600000 in
/-- The next computes their log-softmax. -/
theorem win3_logp :
    StableHlo.after win3 V (no_index (Proc.devRef .tc main_v59)) = logSoftmax (shifted (V (Proc.devRef .tc main_v58))) := by
  simp only [win3, line, List.take, List.drop]
  after_results_simp
  rfl

set_option maxHeartbeats 1600000 in
/-- The next computes the choice. -/
theorem win4_guide :
    StableHlo.after win4 V (no_index (Proc.devRef .tc main_v60)) = guide (V (Proc.devRef .tc main_v59)) := by
  simp only [win4, line, List.take, List.drop]
  after_results_simp
  rfl

set_option maxHeartbeats 1600000 in
/-- The choice's window keeps the log-probabilities. -/
theorem win4_logp : StableHlo.after win4 V (no_index (Proc.devRef .tc main_v59)) = V (Proc.devRef .tc main_v59) := by
  simp only [win4, line, List.take, List.drop]
  after_results_simp

set_option maxHeartbeats 1600000 in
/-- The last window keeps the log-probabilities. -/
theorem win5_logp : StableHlo.after win5 V (no_index (Proc.devRef .tc main_v59)) = V (Proc.devRef .tc main_v59) := by
  simp only [win5, line, List.take, List.drop]
  after_results_simp

set_option maxHeartbeats 1600000 in
/-- It makes the choices a column. -/
theorem win5_guide :
    StableHlo.after win5 V (no_index (Proc.devRef .tc main_v86)) = column (V (Proc.devRef .tc main_v60)) := by
  simp only [win5, line, List.take, List.drop]
  after_results_simp
  rfl

set_option maxHeartbeats 1600000 in
/-- It gathers the chosen embeddings. -/
theorem win5_chosen :
    StableHlo.after win5 V (no_index (Proc.devRef .tc main_v76)) = chosen (V (Proc.devRef .tc main_arg1)) (V (Proc.devRef .tc main_v60)) := by
  simp only [win5, line, List.take, List.drop]
  after_results_simp
  rfl

set_option maxHeartbeats 1600000 in
/-- It computes the augmented context. -/
theorem win5_aug :
    StableHlo.after win5 V (no_index (Proc.devRef .tc main_v85)) =
      augment (meanOf (ori (V (Proc.devRef .tc main_arg8)) (V (Proc.devRef .tc main_arg6))) (V (Proc.devRef .tc main_arg3)))
        (V (Proc.devRef .tc main_arg2)) (chosen (V (Proc.devRef .tc main_arg1)) (V (Proc.devRef .tc main_v60)))
        (V (Proc.devRef .tc main_arg0)) := by
  simp only [win5, line, List.take, List.drop]
  after_results_simp
  rfl

/-- A window of the line keeps an argument. -/
theorem keeps {w : List (HloOp τ sig (Elt Ideal))} (hw : ∀ op ∈ w, op ∈ line.1) {r : Ref sig .tc} (hr : r ∈ args) :
    StableHlo.after w V (Proc.devRef .tc r) = V (Proc.devRef .tc r) :=
  StableHlo.after_of_forall_not_mem w V fun op ho => List.forall_iff_forall_mem.mp line_keeps op (hw op ho) r hr

/-- The first window keeps the arguments. -/
theorem keep0 {r : Ref sig .tc} (hr : r ∈ args) : StableHlo.after win0 V (no_index (Proc.devRef .tc r)) = V (Proc.devRef .tc r) :=
  keeps V (fun _ h => List.mem_of_mem_take h) hr

/-- The context's window keeps the arguments. -/
theorem keepq {r : Ref sig .tc} (hr : r ∈ args) : StableHlo.after winq V (no_index (Proc.devRef .tc r)) = V (Proc.devRef .tc r) :=
  keeps V (fun _ h => List.mem_of_mem_drop (List.mem_of_mem_take h)) hr

/-- The projections' window keeps the arguments. -/
theorem keep1 {r : Ref sig .tc} (hr : r ∈ args) : StableHlo.after win1 V (no_index (Proc.devRef .tc r)) = V (Proc.devRef .tc r) :=
  keeps V (fun _ h => List.mem_of_mem_drop (List.mem_of_mem_take h)) hr

/-- The scores' window keeps the arguments. -/
theorem keeps' {r : Ref sig .tc} (hr : r ∈ args) : StableHlo.after wins V (no_index (Proc.devRef .tc r)) = V (Proc.devRef .tc r) :=
  keeps V (fun _ h => List.mem_of_mem_drop (List.mem_of_mem_take h)) hr

/-- The logits' window keeps the arguments. -/
theorem keep2 {r : Ref sig .tc} (hr : r ∈ args) : StableHlo.after win2 V (no_index (Proc.devRef .tc r)) = V (Proc.devRef .tc r) :=
  keeps V (fun _ h => List.mem_of_mem_drop (List.mem_of_mem_take h)) hr

/-- The log-softmax's window keeps the arguments. -/
theorem keep3 {r : Ref sig .tc} (hr : r ∈ args) : StableHlo.after win3 V (no_index (Proc.devRef .tc r)) = V (Proc.devRef .tc r) :=
  keeps V (fun _ h => List.mem_of_mem_drop (List.mem_of_mem_take h)) hr

/-- The choice's window keeps the arguments. -/
theorem keep4 {r : Ref sig .tc} (hr : r ∈ args) : StableHlo.after win4 V (no_index (Proc.devRef .tc r)) = V (Proc.devRef .tc r) :=
  keeps V (fun _ h => List.mem_of_mem_drop (List.mem_of_mem_take h)) hr

/-- The line is its windows in order. -/
theorem line_eq : StableHlo.after line.1 V =
    StableHlo.after win5 (StableHlo.after win4 (StableHlo.after win3 (StableHlo.after win2 (StableHlo.after wins
      (StableHlo.after win1 (StableHlo.after winq (StableHlo.after win0 V))))))) := rfl

/-- The choice's log-probabilities after the first three windows. -/
theorem logp_at :
    StableHlo.after win3 (StableHlo.after win2 (StableHlo.after wins (StableHlo.after win1 (StableHlo.after winq
      (StableHlo.after win0 V))))) (no_index (Proc.devRef .tc main_v59)) =
      logpOf (V (Proc.devRef .tc main_arg0)) (V (Proc.devRef .tc main_arg1)) (V (Proc.devRef .tc main_arg2))
        (V (Proc.devRef .tc main_arg3)) (V (Proc.devRef .tc main_arg7)) (V (Proc.devRef .tc main_arg8))
        (V (Proc.devRef .tc main_arg13)) (V (Proc.devRef .tc main_arg14)) (V (Proc.devRef .tc main_arg15))
        (V (Proc.devRef .tc main_arg16)) (V (Proc.devRef .tc main_arg17)) (V (Proc.devRef .tc main_arg18))
        (V (Proc.devRef .tc main_arg19)) (V (Proc.devRef .tc main_arg20)) := by
  simp (discharger := decide) only [win3_logp, win2_logits, wins_scores, wins_values, wins_pointer, wins_mask, win1_query,
    win1_keys, win1_values, win1_pointer, win1_mask, winq_query, win0_mean, keep0, keepq, keep1, keeps', logpOf, glimpseOf]

end Windows

/-- Every execution of the reference ends with its four results at the stages' composition and its arguments unchanged. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v85) =
        augOf (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg6)) (m ((c.tc : Thread nD τ).loc main_arg7))
          (m ((c.tc : Thread nD τ).loc main_arg8)) (m ((c.tc : Thread nD τ).loc main_arg13)) (m ((c.tc : Thread nD τ).loc main_arg14))
          (m ((c.tc : Thread nD τ).loc main_arg15)) (m ((c.tc : Thread nD τ).loc main_arg16)) (m ((c.tc : Thread nD τ).loc main_arg17))
          (m ((c.tc : Thread nD τ).loc main_arg18)) (m ((c.tc : Thread nD τ).loc main_arg19)) (m ((c.tc : Thread nD τ).loc main_arg20))
      ∧ r.2.mem ((c.tc : Thread nD τ).loc main_v76) =
        chosenOf (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg7)) (m ((c.tc : Thread nD τ).loc main_arg8))
          (m ((c.tc : Thread nD τ).loc main_arg13)) (m ((c.tc : Thread nD τ).loc main_arg14)) (m ((c.tc : Thread nD τ).loc main_arg15))
          (m ((c.tc : Thread nD τ).loc main_arg16)) (m ((c.tc : Thread nD τ).loc main_arg17)) (m ((c.tc : Thread nD τ).loc main_arg18))
          (m ((c.tc : Thread nD τ).loc main_arg19)) (m ((c.tc : Thread nD τ).loc main_arg20))
      ∧ r.2.mem ((c.tc : Thread nD τ).loc main_v86) =
        column (guideOf (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg7)) (m ((c.tc : Thread nD τ).loc main_arg8))
          (m ((c.tc : Thread nD τ).loc main_arg13)) (m ((c.tc : Thread nD τ).loc main_arg14)) (m ((c.tc : Thread nD τ).loc main_arg15))
          (m ((c.tc : Thread nD τ).loc main_arg16)) (m ((c.tc : Thread nD τ).loc main_arg17)) (m ((c.tc : Thread nD τ).loc main_arg18))
          (m ((c.tc : Thread nD τ).loc main_arg19)) (m ((c.tc : Thread nD τ).loc main_arg20)))
      ∧ r.2.mem ((c.tc : Thread nD τ).loc main_v59) =
        logpOf (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg7)) (m ((c.tc : Thread nD τ).loc main_arg8))
          (m ((c.tc : Thread nD τ).loc main_arg13)) (m ((c.tc : Thread nD τ).loc main_arg14)) (m ((c.tc : Thread nD τ).loc main_arg15))
          (m ((c.tc : Thread nD τ).loc main_arg16)) (m ((c.tc : Thread nD τ).loc main_arg17)) (m ((c.tc : Thread nD τ).loc main_arg18))
          (m ((c.tc : Thread nD τ).loc main_arg19)) (m ((c.tc : Thread nD τ).loc main_arg20))
      ∧ ∀ b ∈ args, r.2.mem ((c.tc : Thread nD τ).loc b) = m ((c.tc : Thread nD τ).loc b) := by
  refine θ_run_mono (StableHlo.run_hlo _ _ line.2 (by decide) (by decide) line_bufs
    (List.forall_iff_forall_mem.mp line_fresh) m g) fun r h c => ⟨?_, ?_, ?_, ?_, ?_⟩
  · rw [h c, line_eq, win5_aug]
    simp (discharger := decide) only [win4_guide, logp_at, keep0, keepq, keep1, keeps', keep2, keep3, keep4]
    rfl
  · rw [h c, line_eq, win5_chosen]
    simp (discharger := decide) only [win4_guide, logp_at, keep0, keepq, keep1, keeps', keep2, keep3, keep4]
    rfl
  · rw [h c, line_eq, win5_guide, win4_guide, logp_at]
    rfl
  · rw [h c, line_eq, win5_logp, win4_logp, logp_at]
  · intro b hb
    exact (h c b).trans (keeps _ (fun _ h => h) hb)

end Cert.RefRun

end
-- ==== Proof.RefAt.lean ====
module

public import proofs.«01_k».proof.Proof.RefRun
public import proofs.«01_k».proof.Proof.Spec
public import Idealize.ShloMosaic.Lib.Routing.OpsPair
public import Idealize.ShloMosaic.PureOps.Ideal.Laws

/-!
# The reference's stages, read at an index

Every stage of the reference's run at one batch entry, as the functions of the entry's rows.
-/

@[expose] public section

set_option maxRecDepth 16384

noncomputable section

namespace Cert.RefAt

open Idealize.ShloMosaic Idealize.ShloMosaic.TcCoe Idealize.SL.Sem
open Cert.ReferenceIdeal Cert.ReferenceIdeal.Gen Cert.ReferenceIdeal.Facts Cert.RefRun

/-! ## The three stages that move by index -/

/-- Every batch entry whose other clusters aren't all visited: the flag of the first cluster. -/
theorem someLeft_at (vis : IVec S128x1x100 1) (b : Fin 128) :
    someLeft vis (ix1 b) = BitVec.ofBool (decide (∃ x : Fin 100, x ≠ 0 ∧ vis (ix3 b 0 x) ≠ 1#1)) := by
  pointwise [someLeft]
  have h := Spec.fold_andi fun x : Fin 99 => vis (ix3 b 0 ⟨1 + x.val, by omega⟩)
  generalize Finset.univ.fold IntOp.andi 1#1 (fun x : Fin 99 => vis (ix3 b 0 ⟨1 + x.val, by omega⟩)) = w at h ⊢
  have e : (∃ x : Fin 100, x ≠ 0 ∧ vis (ix3 b 0 x) ≠ 1#1) ↔ ¬ w = 1#1 := by
    rw [h, not_forall]
    constructor
    · rintro ⟨x, hx, hv⟩
      have hx' : x.val ≠ 0 := fun q => hx (Fin.ext q)
      refine ⟨⟨x.val - 1, by omega⟩, ?_⟩
      have q : (⟨1 + (x.val - 1), by omega⟩ : Fin 100) = x := Fin.ext (by show 1 + (x.val - 1) = x.val; omega)
      rwa [q]
    · rintro ⟨x, hv⟩
      exact ⟨_, fun q => by have := congrArg Fin.val q; simp at this, hv⟩
  rw [show decide (∃ x : Fin 100, x ≠ 0 ∧ vis (ix3 b 0 x) ≠ 1#1) = decide (¬ w = 1#1) from decide_eq_decide.2 e]
  clear h e
  revert w; decide

/-- The scatter's window starts at the first column. -/
theorem origin_at (a : S2.Idx) : origin a = 0#32 := by
  idx_vars a
  pointwise [origin]
  split <;> rfl

/-- A fold that keeps its state at all elements but one, and there takes a new one, ends with that one. -/
theorem foldl_one {α ι : Type} (P : ι → Prop) [DecidablePred P] (g : ι → α) (l : List ι) (i : ι) (hi : i ∈ l) (hP : ∀ n, P n ↔ n = i) (a : α) :
    l.foldl (fun a n => if P n then g n else a) a = g i := by
  have keep : ∀ l : List ι, l.foldl (fun a n => if P n then g n else a) (g i) = g i := fun l => by
    induction l with
    | nil => rfl
    | cons n l ih =>
      rw [List.foldl_cons]
      split
      · next h => rw [(hP n).1 h]; exact ih
      · exact ih
  induction l generalizing a with
  | nil => cases hi
  | cons n l ih =>
    rw [List.foldl_cons]
    by_cases h : P n
    · rw [if_pos h, (hP n).1 h]; exact keep l
    · rw [if_neg h]
      exact ih ((List.mem_cons.1 hi).resolve_left fun q => h ((hP n).2 q.symm)) a

/-- Where the scatter's updates land: entry `k` at the first column of batch entry `k`. -/
theorem lands (k : S128.Idx) (b : Fin 128) (c : Fin 100) :
    scatter_S128x1x100_S2_S128_0_12_12_0.resultIdx? k origin = some (ix3 b 0 c) ↔ k = ix1 b ∧ c = 0 := by
  obtain ⟨k, rfl⟩ : ∃ q, k = ix1 q := ⟨k 0, funext fun a => match a with | ⟨0, _⟩ => rfl⟩
  rw [Routing.resultIdx?_eq_some]
  have h0 : scatter_S128x1x100_S2_S128_0_12_12_0.start (ix1 k) origin 0 = 0 := rfl
  have h1 : scatter_S128x1x100_S2_S128_0_12_12_0.start (ix1 k) origin 1 = 0 := by
    unfold ScatterDims.start; split
    · rw [origin_at]; rfl
    · rfl
  have h2 : scatter_S128x1x100_S2_S128_0_12_12_0.start (ix1 k) origin 2 = 0 := by
    unfold ScatterDims.start; split
    · rw [origin_at]; rfl
    · rfl
  have w0 : scatter_S128x1x100_S2_S128_0_12_12_0.window (ix1 k) 0 = k.val := rfl
  have w1 : scatter_S128x1x100_S2_S128_0_12_12_0.window (ix1 k) 1 = 0 := rfl
  have w2 : scatter_S128x1x100_S2_S128_0_12_12_0.window (ix1 k) 2 = 0 := rfl
  constructor
  · intro h
    have a0 := h 0
    have a2 := h 2
    rw [h0, w0] at a0
    rw [h2, w2] at a2
    change (0 : Int) + k.val = b.val at a0
    change (0 : Int) + (0 : Nat) = c.val at a2
    exact ⟨congrArg ix1 (Fin.ext (by omega)), Fin.ext (by show c.val = 0; omega)⟩
  · rintro ⟨hk, rfl⟩ a
    obtain rfl : k = b := congrFun hk 0
    match a with
    | ⟨0, _⟩ => exact (congrArg₂ (· + ·) h0 (congrArg Nat.cast w0)).trans (Int.zero_add _)
    | ⟨1, _⟩ => exact congrArg₂ (· + ·) h1 (congrArg Nat.cast w1)
    | ⟨2, _⟩ => exact congrArg₂ (· + ·) h2 (congrArg Nat.cast w2)

/-- The masked clusters of a batch entry. -/
theorem clusterMask_at (vis : IVec S128x1x100 1) (b : Fin 128) (c : Fin 100) :
    clusterMask vis (ix3 b 0 c) = Spec.mask (fun x => vis (ix3 b 0 x)) c := by
  unfold clusterMask Spec.mask
  rw [Routing.scatter_at]
  simp only [lands]
  by_cases hc : c = 0
  · rw [if_pos hc, ← someLeft_at]
    refine (foldl_one (fun n => S128.rowMajor.symm n = ix1 b ∧ c = 0) (fun n => someLeft vis (S128.rowMajor.symm n)) _ (S128.rowMajor (ix1 b))
      (List.mem_finRange _) (fun n => ?_) _).trans ?_
    · rw [Equiv.symm_apply_eq]; exact and_iff_left hc
    · rw [Equiv.symm_apply_apply]
  · rw [if_neg hc]
    simp only [hc, and_false, if_false]
    exact List.foldl_fixed _

/-- A small number is not negative, so that it counts from the front. -/
theorem wrap_at (x : IVec S128 32) (n : BitVec 32) (b : Fin 128) (k : Nat) (hk : k < 1000) (hx : x (ix1 b) = BitVec.ofNat 32 k) :
    wrap x n (ix1 b) = BitVec.ofNat 32 k := by
  pointwise [wrap]
  rw [hx]
  unfold Scalar.select IntOp.cmpi
  rw [if_neg]
  have h := Spec.toInt_small k hk
  have e : (BitVec.ofNat 32 k).slt 0#32 = false := by
    rw [Bool.eq_false_iff, Ne, BitVec.slt_iff_toInt_lt, h]
    simp
  show ¬BitVec.ofBool ((BitVec.ofNat 32 k).slt 0#32) = 1#1
  rw [e]; decide

/-- The slice at batch entry `b` and the entry's choice. -/
theorem chosen_at (ce : FVec Ideal S128x100x128 .f32) (g : IVec S128 32) (b : Fin 128) (z : Fin 1) (d : Fin 128) (k : Fin 100)
    (hg : g (ix1 b) = BitVec.ofNat 32 k.val) : chosen ce g (ix3 b z d) = ce (ix3 b k d) := by
  pointwise [chosen]
  unfold Host.gather
  generalize hi : concatenate S128x2 1 _ _ = idx
  have i0 : idx (ix2 b 0) = BitVec.ofNat 32 b.val := by
    rw [← hi]; pointwise
    exact wrap_at _ _ b b.val (by omega) (by pointwise)
  have i1 : idx (ix2 b 1) = BitVec.ofNat 32 k.val := by
    rw [← hi]; pointwise
    exact wrap_at _ _ b k.val (by omega) hg
  have s0 : gather_S128x100x128_S128x2_S128x128_1_01_n_n_01_1_11128.start (ix2 b d) idx 0 = min (idx (ix2 b 0)).toInt.toNat 127 := by
    refine congrArg (fun i => min (idx i).toInt.toNat 127) (funext fun a => ?_)
    match a with
    | ⟨0, _⟩ => rfl
    | ⟨1, _⟩ => rfl
  have s1 : gather_S128x100x128_S128x2_S128x128_1_01_n_n_01_1_11128.start (ix2 b d) idx 1 = min (idx (ix2 b 1)).toInt.toNat 99 := by
    refine congrArg (fun i => min (idx i).toInt.toNat 99) (funext fun a => ?_)
    match a with
    | ⟨0, _⟩ => rfl
    | ⟨1, _⟩ => rfl
  rw [i0, Spec.toInt_small _ (by omega)] at s0
  rw [i1, Spec.toInt_small _ (by omega)] at s1
  refine congrArg ce (funext fun a => Fin.ext ?_)
  match a with
  | ⟨0, _⟩ =>
    refine (congrArg₂ (· + ·) (congrArg₂ (· + ·) s0 (rfl : _ = 0)) (rfl : _ = 0)).trans ?_
    show min (b.val : Int).toNat 127 + 0 + 0 = b.val
    omega
  | ⟨1, _⟩ =>
    refine (congrArg₂ (· + ·) (congrArg₂ (· + ·) s1 (rfl : _ = 0)) (rfl : _ = 0)).trans ?_
    show min (k.val : Int).toNat 99 + 0 + 0 = k.val
    omega
  | ⟨2, _⟩ =>
    exact Nat.zero_add _

/-- `q` is no better than `p`: its value is smaller, or the same at an index not before. -/
def NoBetter (q p : EReal × BitVec 32) : Prop := q.1 < p.1 ∨ q.1 = p.1 ∧ p.2.toInt ≤ q.2.toInt

/-- The body of the search, in words: the first pair is kept where its value is greater, or equal at an earlier index. -/
theorem reducer_eq (a b : EReal × BitVec 32) :
    reducer_argmax_f32_i32 (F := Ideal) a b = if b.1 < a.1 ∨ a.1 = b.1 ∧ a.2.toInt < b.2.toInt then a else b := by
  obtain ⟨x, i⟩ := a
  obtain ⟨y, j⟩ := b
  simp only [reducer_argmax_f32_i32, Scalar.select, IntOp.ori, IntOp.andi, IntOp.cmpi, Ideal.cmpf_def, Ideal.cmp, ne_eq, not_true, decide_false]
  have hs : i.slt j = decide (i.toInt < j.toInt) := by rw [Bool.eq_iff_iff, BitVec.slt_iff_toInt_lt, decide_eq_true_iff]
  rw [hs]
  rcases lt_trichotomy y x with h | h | h
  · simp [h, h.ne']
  · subst h
    by_cases hi : i.toInt < j.toInt <;> simp [hi]
  · simp [h.not_gt, h.ne]

/-- The search over a list that holds a pair no worse than every other ends with this pair. -/
theorem foldl_reducer (p : EReal × BitVec 32) (l : List (EReal × BitVec 32)) (hl : ∀ q ∈ l, NoBetter q p) (r : EReal × BitVec 32)
    (hr : NoBetter r p) (h : p ∈ l ∨ r = p) : l.foldl (reducer_argmax_f32_i32 (F := Ideal)) r = p := by
  induction l generalizing r with
  | nil => exact h.resolve_left nofun
  | cons q l ih =>
    have hq := hl q List.mem_cons_self
    rw [List.foldl_cons]
    refine ih (fun q hq => hl q (List.mem_cons_of_mem _ hq)) _ ?_ ?_
    · rw [reducer_eq]; split
      · exact hr
      · exact hq
    · by_cases hrp : r = p
      · subst hrp
        refine .inr ?_
        rw [reducer_eq]
        split
        · rfl
        · next hn =>
          rw [not_or, not_and, not_lt, not_lt] at hn
          rcases hq with hq | ⟨hq, hi⟩
          · exact absurd hq (not_lt.2 hn.1)
          · exact Prod.ext hq (BitVec.eq_of_toInt_eq (le_antisymm (hn.2 hq.symm) hi))
      · rcases List.mem_cons.1 (h.resolve_right hrp) with rfl | hm
        · refine .inr ?_
          rw [reducer_eq, if_neg]
          rintro (hlt | ⟨he, hi⟩)
          · rcases hr with hr | ⟨hr, -⟩
            · exact absurd hlt (not_lt.2 hr.le)
            · exact absurd hlt (not_lt.2 hr.le)
          · rcases hr with hr | ⟨-, hr⟩
            · exact absurd he hr.ne
            · omega
        · exact .inl hm

/-- The reference's choice: the first cluster that attains the maximum. -/
theorem guide_at (x : FVec Ideal S128x100 .f32) (b : Fin 128) :
    guide x (ix1 b) = BitVec.ofNat 32 (Spec.first fun c => x (ix2 b c)).val := by
  unfold guide
  rw [Ideal.argReduce_eq_reduce2, Host.reduce2_eq_foldl_fiber]
  have hd : ∀ i : S128x100.Idx, reducesTo_S128x100_S128_d1.drop i = ix1 (i 0) := fun i => funext fun a => match a with
    | ⟨0, _⟩ => rfl
  have hi : ∀ i : S128x100.Idx, i = ix2 (i 0) (i 1) := fun i => funext fun a => match a with
    | ⟨0, _⟩ => rfl
    | ⟨1, _⟩ => rfl
  refine congrArg Prod.snd (foldl_reducer (x (ix2 b (Spec.first fun c => x (ix2 b c))), BitVec.ofNat 32 (Spec.first fun c => x (ix2 b c)).val)
    _ ?_ _ ?_ (.inl ?_))
  · intro q hq
    unfold Host.argReduceFiber at hq
    obtain ⟨n, hn, rfl⟩ := List.mem_map.1 hq
    have hb := of_decide_eq_true (List.mem_filter.1 hn).2
    generalize S128x100.rowMajor.symm n = i at hb ⊢
    rw [hd] at hb
    rw [hi i, show i 0 = b from congrFun hb 0]
    generalize i 1 = c
    rcases lt_or_eq_of_le (Spec.le_first (fun c => x (ix2 b c)) c) with h | h
    · exact .inl h
    · refine .inr ⟨h, ?_⟩
      have := Fin.le_def.1 (Spec.first_le (fun c => x (ix2 b c)) c h)
      show (BitVec.ofNat 32 _).toInt ≤ (BitVec.ofNat 32 c.val).toInt
      rw [Spec.toInt_small _ (by omega), Spec.toInt_small c.val (by omega)]
      omega
  · show NoBetter (Ideal.ofBits .f32 4286578688#32, 0#32) _
    rw [Spec.bot_lit]
    rcases lt_or_eq_of_le (bot_le (a := (x (ix2 b (Spec.first fun c => x (ix2 b c))) : EReal))) with h | h
    · exact .inl h
    · refine .inr ⟨h, ?_⟩
      have h0 : x (ix2 b 0) = x (ix2 b (Spec.first fun c => x (ix2 b c))) :=
        (le_bot_iff.1 ((Spec.le_first (fun c => x (ix2 b c)) 0).trans h.ge)).trans h
      have := Fin.le_def.1 (Spec.first_le (fun c => x (ix2 b c)) 0 h0)
      rw [show Spec.first (fun c => x (ix2 b c)) = 0 from Fin.le_zero_iff.1 this]
      exact le_refl _
  · unfold Host.argReduceFiber
    refine List.mem_map.2 ⟨S128x100.rowMajor (ix2 b (Spec.first fun c => x (ix2 b c))), List.mem_filter.2 ⟨List.mem_finRange _, ?_⟩, ?_⟩
    · exact decide_eq_true (by rw [Equiv.symm_apply_apply, hd]; rfl)
    · rw [Equiv.symm_apply_apply]; rfl

/-! ## The other stages -/

/-- The mean of the unmasked nodes. -/
theorem meanOf_at (mk : IVec S128x1x1000 1) (node : FVec Ideal S128x1000x128 .f32) (b : Fin 128) (z : Fin 1) (d : Fin 128) :
    meanOf mk node (ix3 b z d) = Spec.mean (fun x => mk (ix3 b 0 x)) (fun x d => node (ix3 b x d)) d := by
  pointwise [meanOf, Spec.mean]

/-- A projection of the clusters. -/
theorem proj_at (x : FVec Ideal S128x100x128 .f32) (w : FVec Ideal S128x128 .f32) (b : Fin 128) (c : Fin 100) (d : Fin 128) :
    proj x w (ix3 b c d) = Spec.times (fun k => x (ix3 b c k)) (Spec.mat w) d := by
  pointwise [proj, Spec.times, Spec.mat]

/-- A projection of one row. -/
theorem proj1_at (x : FVec Ideal S128x1x128 .f32) (w : FVec Ideal S128x128 .f32) (b : Fin 128) (z : Fin 1) (d : Fin 128) :
    proj1 x w (ix3 b z d) = Spec.times (fun k => x (ix3 b z k)) (Spec.mat w) d := by
  pointwise [proj1, Spec.times, Spec.mat]

/-- The context's projection. -/
theorem query_at (um cur depot : FVec Ideal S128x1x128 .f32) (wq : FVec Ideal S384x128 .f32) (b : Fin 128) (z : Fin 1) (d : Fin 128) :
    query um cur depot wq (ix3 b z d)
      = Spec.times (Spec.context (fun d => um (ix3 b 0 d)) (fun d => cur (ix3 b 0 d)) (fun d => depot (ix3 b 0 d))) (Spec.mat wq) d := by
  pointwise [query, Spec.times, Spec.mat, Spec.context]

/-- The masked scores of a head. -/
theorem scores_at (q : FVec Ideal S128x1x128 .f32) (k : FVec Ideal S128x100x128 .f32) (vm : IVec S128x1x100 1) (b : Fin 128) (h : Fin 8) (z : Fin 1)
    (c : Fin 100) : scores (heads1 q) (heads k) vm (ix4 b h z c)
      = Spec.score (fun d => q (ix3 b 0 d)) (fun c d => k (ix3 b c d)) (fun c => vm (ix3 b 0 c)) h c := by
  pointwise [scores, heads1, heads, Spec.score, Spec.lane]

/-- The attention's weights: the softmax of the scores. -/
theorem weights_at (s : FVec Ideal S128x8x1x100 .f32) (b : Fin 128) (h : Fin 8) (z : Fin 1) (c : Fin 100) :
    weights (expScores s) (ix4 b h z c) = Spec.softmax (fun c => s (ix4 b h 0 c)) c := by
  obtain rfl : z = 0 := Subsingleton.elim _ _
  pointwise [weights, expScores, Spec.softmax, Spec.top]
  simp only [Spec.bot_lit, bot_le, max_eq_right]

/-- The heads' outputs side by side. -/
theorem attended_at (w : FVec Ideal S128x8x1x100 .f32) (v : FVec Ideal S128x100x128 .f32) (b : Fin 128) (z : Fin 1) (e : Fin 128) :
    attended w (heads v) (ix3 b z e) = ∑ c, w (ix4 b (Spec.headOf e) 0 c) * v (ix3 b c e) := by
  pointwise [attended, heads, Spec.headOf]

/-- The clipped and masked logits. -/
theorem logits_at (g : FVec Ideal S128x1x128 .f32) (pk : FVec Ideal S128x100x128 .f32) (vm : IVec S128x1x100 1) (b : Fin 128) (c : Fin 100) :
    logits g pk vm (ix2 b c) = Spec.logit (fun d => g (ix3 b 0 d)) (fun c d => pk (ix3 b c d)) (fun c => vm (ix3 b 0 c)) c := by
  pointwise [logits, Spec.logit]

/-- The log-softmax of the logits. -/
theorem logSoftmax_at (s : FVec Ideal S128x100 .f32) (b : Fin 128) (c : Fin 100) :
    logSoftmax (shifted s) (ix2 b c) = Spec.logSoftmax (fun c => s (ix2 b c)) c := by
  pointwise [logSoftmax, shifted, Spec.logSoftmax, Spec.top]
  simp only [Spec.bot_lit, bot_le, max_eq_right]

/-- The four rows side by side. -/
theorem augment_at (um cur ge depot : FVec Ideal S128x1x128 .f32) (b : Fin 128) (z : Fin 1) (x : Fin 512) :
    augment um cur ge depot (ix3 b z x)
      = Spec.augmented (fun d => um (ix3 b 0 d)) (fun d => cur (ix3 b 0 d)) (fun d => ge (ix3 b 0 d)) (fun d => depot (ix3 b 0 d)) x := by
  pointwise [augment, Spec.augmented]

/-! ## The results -/

section Results

variable (depot : FVec Ideal S128x1x128 .f32) (ce : FVec Ideal S128x100x128 .f32) (cur : FVec Ideal S128x1x128 .f32)
  (node : FVec Ideal S128x1000x128 .f32) (cm : IVec S128x1x1000 1) (vis : IVec S128x1x100 1) (mk : IVec S128x1x1000 1)
  (wq : FVec Ideal S384x128 .f32) (wk wv wks wqm wkm wvm wom : FVec Ideal S128x128 .f32)

/-- The log-probabilities of batch entry `b`, as the functions of its rows. -/
def logpRow (b : Fin 128) : Fin 100 → EReal :=
  Spec.logp (.ofArrays wq wk wv wks wqm wkm wvm wom) (Spec.mean (fun x => mk (ix3 b 0 x)) fun x d => node (ix3 b x d))
    (fun d => cur (ix3 b 0 d)) (fun d => depot (ix3 b 0 d)) (fun c d => ce (ix3 b c d)) (Spec.mask fun c => vis (ix3 b 0 c))

/-- The reference's log-probabilities. -/
theorem logpOf_at (b : Fin 128) (c : Fin 100) : logpOf depot ce cur node vis mk wq wk wv wks wqm wkm wvm wom (ix2 b c)
    = logpRow depot ce cur node vis mk wq wk wv wks wqm wkm wvm wom b c := by
  unfold logpOf glimpseOf logpRow Spec.logp Spec.glimpse Spec.attend Spec.queryRow
  simp only [logSoftmax_at, logits_at, clusterMask_at, proj1_at, proj_at, attended_at, weights_at, scores_at, query_at, meanOf_at]
  rfl

/-- The reference's choices. -/
theorem guideOf_at (b : Fin 128) : guideOf depot ce cur node vis mk wq wk wv wks wqm wkm wvm wom (ix1 b)
    = BitVec.ofNat 32 (Spec.first (logpRow depot ce cur node vis mk wq wk wv wks wqm wkm wvm wom b)).val := by
  unfold guideOf
  rw [guide_at]
  simp only [logpOf_at]

/-- The reference's choices, as a column. -/
theorem column_at (g : IVec S128 32) (b : Fin 128) (z : Fin 1) : column g (ix2 b z) = g (ix1 b) := by
  pointwise [column]

/-- The reference's chosen embeddings. -/
theorem chosenOf_at (b : Fin 128) (z : Fin 1) (d : Fin 128) : chosenOf depot ce cur node vis mk wq wk wv wks wqm wkm wvm wom (ix3 b z d)
    = ce (ix3 b (Spec.first (logpRow depot ce cur node vis mk wq wk wv wks wqm wkm wvm wom b)) d) :=
  chosen_at ce _ b z d _ (guideOf_at ..)

/-- The reference's augmented context. -/
theorem augOf_at (b : Fin 128) (z : Fin 1) (x : Fin 512) : augOf depot ce cur node cm vis mk wq wk wv wks wqm wkm wvm wom (ix3 b z x)
    = Spec.augmented (Spec.mean (fun x => mk (ix3 b 0 x) ||| cm (ix3 b 0 x)) fun x d => node (ix3 b x d)) (fun d => cur (ix3 b 0 d))
        (fun d => ce (ix3 b (Spec.first (logpRow depot ce cur node vis mk wq wk wv wks wqm wkm wvm wom b)) d)) (fun d => depot (ix3 b 0 d)) x := by
  unfold augOf
  rw [augment_at]
  simp only [meanOf_at, chosenOf_at]
  rfl

end Results

end Cert.RefAt
-- ==== Proof.Final.lean ====
module

public import proofs.«01_k».proof.Proof.KerAt
public import proofs.«01_k».proof.Proof.RefAt
public import proofs.«01_k».proof.Defs
public import Idealize.ShloMosaic.Lib.ReduceAll
public import Idealize.ShloMosaic.Lib.Claim
public import Idealize.ShloMosaic.Lib.Pipeline.ValueKit

/-!
# The kernel's four results

Each window's block read as its array at the block's batch entries, the block's results as those of the batch entries, and from them the
four arrays that the kernel leaves: the reference's, over the same arguments, where the nodes' embeddings are finite.
-/

@[expose] public section

set_option maxRecDepth 16384

noncomputable section

namespace Cert.Final

open Idealize.ShloMosaic Idealize.ShloMosaic.TcCoe Idealize.SL.Sem
open Idealize.ShloMosaic.Pipeline (Dat)
open Cert.KernelIdeal Cert.KernelIdeal.Gen

variable [Cert.Pre_finite_nodes.Facts] (m : (ℓ : Loc nD τ sig) → Buf (Elt Ideal) ℓ)

/-- Which block of its array each window holds at a grid point: the point's own along the batch axis, the first elsewhere. -/
theorem idx : ∀ t : Fin cfg0.N, win0_0.index t = ![t.val, 0, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![t.val, 0, 0]
    ∧ win0_15.index t = ![t.val, 0, 0] ∧ win0_16.index t = ![t.val, 0] ∧ win0_17.index t = ![t.val, 0] ∧ t.val < 4 :=
  (by decide +kernel : ∀ t : Fin grid0.N, _)

/-- The batch entry that a grid point's block holds at `b`. -/
def entry (t : Fin cfg0.N) (b : Fin 32) : Fin 128 := ⟨t.val * 32 + b.val, by have := idx t; omega⟩

/-- A flag converted to a float is its number. -/
theorem uitofp_flag (w : BitVec 1) : (FloatOps.uitofp .f32 w : Ideal .f32) = Spec.num w := by
  show ((w.toNat : ℝ) : EReal) = _
  rcases Spec.flag_cases w with rfl | rfl <;> simp [Spec.num]

/-- The kept nodes of the query, as zeros and ones. -/
theorem keep_block (c : Dev nD) (t : Fin cfg0.N) (b : Fin 32) (x : Fin 1000) :
    (iblk m c 0 t (ix3 b 0 x) : EReal) = Spec.num (~~~ m ((c : Thread nD τ).loc main_arg8) (ix3 (entry t b) 0 x)) := by
  blk_simp [iblk, idx t]
  entry_read
  have e : ((View.whole main_v5).slice (win0_0.rect t)).emb (ix3 b 0 x) = ix3 (entry t b) 0 x := by blk_ext [idx t, entry]
  rw [e]
  pointwise
  exact uitofp_flag _

/-- The kept nodes of the augmented context: those that neither mask hides. -/
theorem keep_block' (c : Dev nD) (t : Fin cfg0.N) (b : Fin 32) (x : Fin 1000) :
    (iblk m c 0 t (ix3 b 1 x) : EReal) = Spec.num (~~~ (IntOp.ori (m ((c : Thread nD τ).loc main_arg8) (ix3 (entry t b) 0 x))
      (m ((c : Thread nD τ).loc main_arg6) (ix3 (entry t b) 0 x)))) := by
  blk_simp [iblk, idx t]
  entry_read
  have e : ((View.whole main_v5).slice (win0_0.rect t)).emb (ix3 b 1 x) = ix3 (entry t b) 1 x := by blk_ext [idx t, entry]
  rw [e]
  pointwise
  exact uitofp_flag _

/-- The visited clusters, as zeros and ones. -/
theorem vis_block (c : Dev nD) (t : Fin cfg0.N) (b : Fin 32) (x : Fin 100) :
    (iblk m c 3 t (ix3 b x 0) : EReal) = Spec.num (m ((c : Thread nD τ).loc main_arg7) (ix3 (entry t b) 0 x)) := by
  blk_simp [iblk, idx t]
  entry_read
  have e : ((View.whole main_v7).slice (win0_3.rect t)).emb (ix3 b x 0) = ix3 (entry t b) x 0 := by blk_ext [idx t, entry]
  rw [e]
  pointwise
  exact uitofp_flag _

/-- The nodes' embeddings. -/
theorem node_block (c : Dev nD) (t : Fin cfg0.N) (b : Fin 32) (x : Fin 1000) (d : Fin 128) :
    iblk m c 1 t (ix3 b x d) = m ((c : Thread nD τ).loc main_arg3) (ix3 (entry t b) x d) := by
  blk_ext [iblk, V, idx t, entry]

/-- The clusters' embeddings. -/
theorem ce_block (c : Dev nD) (t : Fin cfg0.N) (b : Fin 32) (x : Fin 100) (d : Fin 128) :
    iblk m c 2 t (ix3 b x d) = m ((c : Thread nD τ).loc main_arg1) (ix3 (entry t b) x d) := by
  blk_ext [iblk, V, idx t, entry]

/-- The current node. -/
theorem cur_block (c : Dev nD) (t : Fin cfg0.N) (b : Fin 32) (d : Fin 128) :
    iblk m c 4 t (ix3 b 0 d) = m ((c : Thread nD τ).loc main_arg2) (ix3 (entry t b) 0 d) := by
  blk_ext [iblk, V, idx t, entry]

/-- The depot. -/
theorem depot_block (c : Dev nD) (t : Fin cfg0.N) (b : Fin 32) (d : Fin 128) :
    iblk m c 5 t (ix3 b 0 d) = m ((c : Thread nD τ).loc main_arg0) (ix3 (entry t b) 0 d) := by
  blk_ext [iblk, V, idx t, entry]

/-- The query's matrix is one block. -/
theorem query_block (c : Dev nD) (t : Fin cfg0.N) : iblk m c 6 t = m ((c : Thread nD τ).loc main_arg13) := by blk_ext! [iblk, V, idx t]
/-- The keys' matrix is one block. -/
theorem key_block (c : Dev nD) (t : Fin cfg0.N) : iblk m c 7 t = m ((c : Thread nD τ).loc main_arg14) := by blk_ext! [iblk, V, idx t]
/-- The values' matrix is one block. -/
theorem value_block (c : Dev nD) (t : Fin cfg0.N) : iblk m c 8 t = m ((c : Thread nD τ).loc main_arg15) := by blk_ext! [iblk, V, idx t]
/-- The pointer keys' matrix is one block. -/
theorem pointer_block (c : Dev nD) (t : Fin cfg0.N) : iblk m c 9 t = m ((c : Thread nD τ).loc main_arg16) := by blk_ext! [iblk, V, idx t]
/-- The attention's query matrix is one block. -/
theorem queryM_block (c : Dev nD) (t : Fin cfg0.N) : iblk m c 10 t = m ((c : Thread nD τ).loc main_arg17) := by blk_ext! [iblk, V, idx t]
/-- The attention's key matrix is one block. -/
theorem keyM_block (c : Dev nD) (t : Fin cfg0.N) : iblk m c 11 t = m ((c : Thread nD τ).loc main_arg18) := by blk_ext! [iblk, V, idx t]
/-- The attention's value matrix is one block. -/
theorem valueM_block (c : Dev nD) (t : Fin cfg0.N) : iblk m c 12 t = m ((c : Thread nD τ).loc main_arg19) := by blk_ext! [iblk, V, idx t]
/-- The attention's output matrix is one block. -/
theorem outM_block (c : Dev nD) (t : Fin cfg0.N) : iblk m c 13 t = m ((c : Thread nD τ).loc main_arg20) := by blk_ext! [iblk, V, idx t]

/-- The log-probabilities of a batch entry over the argument arrays. -/
abbrev logs (c : Dev nD) (b : Fin 128) : Fin 100 → EReal :=
  RefAt.logpRow (m ((c : Thread nD τ).loc main_arg0)) (m ((c : Thread nD τ).loc main_arg1)) (m ((c : Thread nD τ).loc main_arg2))
    (m ((c : Thread nD τ).loc main_arg3)) (m ((c : Thread nD τ).loc main_arg7)) (m ((c : Thread nD τ).loc main_arg8))
    (m ((c : Thread nD τ).loc main_arg13)) (m ((c : Thread nD τ).loc main_arg14)) (m ((c : Thread nD τ).loc main_arg15))
    (m ((c : Thread nD τ).loc main_arg16)) (m ((c : Thread nD τ).loc main_arg17)) (m ((c : Thread nD τ).loc main_arg18))
    (m ((c : Thread nD τ).loc main_arg19)) (m ((c : Thread nD τ).loc main_arg20)) b

/-- The clipped logits of a grid point's block. -/
abbrev clippedAt (c : Dev nD) (t : Fin cfg0.N) : FVec Ideal S32x100 .f32 :=
  KerAt.clipped (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (iblk m c 12 t) (iblk m c 13 t)

/-- The stored results are computed from the block's mask. -/
theorem pay19_eq (c : Dev nD) (t : Fin cfg0.N) :
    k0_pay19 (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) = k0_pay10 (iblk m c 3 t) := by
  unfold k0_pay19
  simp (disch := decide) only [View.ld_unit_lit']

/-- The stored results are computed from the block's clipped logits. -/
theorem pay20_eq (c : Dev nD) (t : Fin cfg0.N) :
    k0_pay20 (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) = clippedAt m c t := by
  unfold k0_pay20 k0_pay18 clippedAt KerAt.clipped
  simp (disch := decide) only [View.ld_unit_lit']

/-- Every entry of the nodes' embeddings is a finite number. -/
def Finite (c : Dev nD) : Prop := ∀ (b : Fin 128) (x : Fin 1000) (d : Fin 128),
  m ((c : Thread nD τ).loc main_arg3) (ix3 b x d) ≠ (⊤ : EReal) ∧ m ((c : Thread nD τ).loc main_arg3) (ix3 b x d) ≠ (⊥ : EReal)

/-- The nodes of a block are finite where all are. -/
theorem node_finite (c : Dev nD) (hf : Finite m c) (t : Fin cfg0.N) (b : Fin 32) (x : Fin 1000) (d : Fin 128) :
    iblk m c 1 t (ix3 b x d) ≠ (⊤ : EReal) ∧ iblk m c 1 t (ix3 b x d) ≠ (⊥ : EReal) := by
  have h := hf (entry t b) x d
  rw [← node_block m c t b x d] at h
  exact h

/-- A block's log-probabilities are those of its batch entries. -/
theorem logp_block (c : Dev nD) (hf : Finite m c) (t : Fin cfg0.N) (b : Fin 32) (x : Fin 100) :
    k0_pay13 (k0_pay10 (iblk m c 3 t)) (clippedAt m c t) (ix2 b x) = logs m c (entry t b) x := by
  refine (KerAt.logp_at _ _ _ _ _ _ _ _ _ _ _ _ _ _ b _ _ (keep_block m c t b) (vis_block m c t b) (node_finite m c hf t b) x).trans ?_
  unfold logs RefAt.logpRow
  rw [query_block, key_block, value_block, pointer_block, queryM_block, keyM_block, valueM_block, outM_block]
  simp only [node_block, ce_block, cur_block, depot_block]

/-- A block's first cluster of greatest log-probability is its batch entry's. -/
theorem first_block (c : Dev nD) (hf : Finite m c) (t : Fin cfg0.N) (b : Fin 32) :
    (Spec.first fun x => k0_pay13 (k0_pay10 (iblk m c 3 t)) (clippedAt m c t) (ix2 b x)) = Spec.first (logs m c (entry t b)) :=
  congrArg Spec.first (funext fun x => logp_block m c hf t b x)

/-- A block's chosen embeddings. -/
theorem chosen_block (c : Dev nD) (hf : Finite m c) (t : Fin cfg0.N) (b : Fin 32) (d : Fin 128) :
    k0_pay15 (iblk m c 2 t) (k0_pay10 (iblk m c 3 t)) (clippedAt m c t) (ix2 b d)
      = m ((c : Thread nD τ).loc main_arg1) (ix3 (entry t b) (Spec.first (logs m c (entry t b))) d) := by
  rw [KerAt.pay15_at, first_block m c hf t b]
  exact ce_block m c t b _ d

/-- The kernel's log-probabilities are the reference's. -/
theorem final17 (c : Dev nD) (hf : Finite m c) : (dats m 0 c).arrAt 17 cfg0.N =
    RefRun.logpOf
    (m ((c : Thread nD τ).loc main_arg0)) (m ((c : Thread nD τ).loc main_arg1)) (m ((c : Thread nD τ).loc main_arg2))
    (m ((c : Thread nD τ).loc main_arg3)) (m ((c : Thread nD τ).loc main_arg7)) (m ((c : Thread nD τ).loc main_arg8))
    (m ((c : Thread nD τ).loc main_arg13)) (m ((c : Thread nD τ).loc main_arg14)) (m ((c : Thread nD τ).loc main_arg15))
    (m ((c : Thread nD τ).loc main_arg16)) (m ((c : Thread nD τ).loc main_arg17)) (m ((c : Thread nD τ).loc main_arg18))
    (m ((c : Thread nD τ).loc main_arg19)) (m ((c : Thread nD τ).loc main_arg20)) := by
  refine (dats m 0 c).arrAt_eq_of_covers 17 _ (by decide +kernel) fun t _ y => ?_
  blk_simp
  rw [after0_17]; frame_out
  obtain ⟨a0, a1, rfl⟩ : ∃ (a0 : Fin 32) (a1 : Fin 100), y = ix2 a0 a1 := ⟨_, _, eq_ix2 y⟩
  have e : ((View.whole main_v8_3).slice (win0_17.rect t)).emb (ix2 a0 a1) = ix2 (entry t a0) a1 := by blk_ext [idx t, entry]
  rw [e]
  rw [pay19_eq, pay20_eq]
  refine Eq.trans ?_ (RefAt.logpOf_at _ _ _ _ _ _ _ _ _ _ _ _ _ _ _ _).symm
  exact logp_block m c hf t a0 a1

/-- The kernel's choices are the reference's. -/
theorem final16 (c : Dev nD) (hf : Finite m c) : (dats m 0 c).arrAt 16 cfg0.N =
    RefRun.column (RefRun.guideOf
    (m ((c : Thread nD τ).loc main_arg0)) (m ((c : Thread nD τ).loc main_arg1)) (m ((c : Thread nD τ).loc main_arg2))
    (m ((c : Thread nD τ).loc main_arg3)) (m ((c : Thread nD τ).loc main_arg7)) (m ((c : Thread nD τ).loc main_arg8))
    (m ((c : Thread nD τ).loc main_arg13)) (m ((c : Thread nD τ).loc main_arg14)) (m ((c : Thread nD τ).loc main_arg15))
    (m ((c : Thread nD τ).loc main_arg16)) (m ((c : Thread nD τ).loc main_arg17)) (m ((c : Thread nD τ).loc main_arg18))
    (m ((c : Thread nD τ).loc main_arg19)) (m ((c : Thread nD τ).loc main_arg20))) := by
  refine (dats m 0 c).arrAt_eq_of_covers 16 _ (by decide +kernel) fun t _ y => ?_
  blk_simp
  rw [after0_16]; frame_out
  obtain ⟨a0, a1, rfl⟩ : ∃ (a0 : Fin 32) (a1 : Fin 1), y = ix2 a0 a1 := ⟨_, _, eq_ix2 y⟩
  have e : ((View.whole main_v8_2).slice (win0_16.rect t)).emb (ix2 a0 a1) = ix2 (entry t a0) a1 := by blk_ext [idx t, entry]
  rw [e]
  rw [pay19_eq, pay20_eq]
  refine Eq.trans ?_ ((RefAt.column_at _ _ _).trans (RefAt.guideOf_at _ _ _ _ _ _ _ _ _ _ _ _ _ _ _)).symm
  refine (KerAt.pay14_at _ _ a0 a1).trans (congrArg (fun g : Fin 100 => BitVec.ofNat 32 g.val) ?_)
  exact first_block m c hf t a0

/-- The kernel's chosen embeddings are the reference's. -/
theorem final15 (c : Dev nD) (hf : Finite m c) : (dats m 0 c).arrAt 15 cfg0.N =
    RefRun.chosenOf
    (m ((c : Thread nD τ).loc main_arg0)) (m ((c : Thread nD τ).loc main_arg1)) (m ((c : Thread nD τ).loc main_arg2))
    (m ((c : Thread nD τ).loc main_arg3)) (m ((c : Thread nD τ).loc main_arg7)) (m ((c : Thread nD τ).loc main_arg8))
    (m ((c : Thread nD τ).loc main_arg13)) (m ((c : Thread nD τ).loc main_arg14)) (m ((c : Thread nD τ).loc main_arg15))
    (m ((c : Thread nD τ).loc main_arg16)) (m ((c : Thread nD τ).loc main_arg17)) (m ((c : Thread nD τ).loc main_arg18))
    (m ((c : Thread nD τ).loc main_arg19)) (m ((c : Thread nD τ).loc main_arg20)) := by
  refine (dats m 0 c).arrAt_eq_of_covers 15 _ (by decide +kernel) fun t _ y => ?_
  blk_simp
  rw [after0_15]; frame_out
  obtain ⟨a0, a1, a2, rfl⟩ : ∃ (a0 : Fin 32) (a1 : Fin 1) (a2 : Fin 128), y = ix3 a0 a1 a2 := ⟨_, _, _, eq_ix3 y⟩
  have e : ((View.whole main_v8_1).slice (win0_15.rect t)).emb (ix3 a0 a1 a2) = ix3 (entry t a0) a1 a2 := by blk_ext [idx t, entry]
  rw [e]
  rw [pay19_eq, pay20_eq]
  refine Eq.trans ?_ (RefAt.chosenOf_at _ _ _ _ _ _ _ _ _ _ _ _ _ _ _ _ _).symm
  exact (KerAt.pay16_at _ _ _ a0 a1 a2).trans (chosen_block m c hf t a0 a2)

/-- The kernel's augmented context is the reference's. -/
theorem final14 (c : Dev nD) (hf : Finite m c) : (dats m 0 c).arrAt 14 cfg0.N =
    RefRun.augOf
    (m ((c : Thread nD τ).loc main_arg0)) (m ((c : Thread nD τ).loc main_arg1)) (m ((c : Thread nD τ).loc main_arg2))
    (m ((c : Thread nD τ).loc main_arg3)) (m ((c : Thread nD τ).loc main_arg6))
    (m ((c : Thread nD τ).loc main_arg7)) (m ((c : Thread nD τ).loc main_arg8))
    (m ((c : Thread nD τ).loc main_arg13)) (m ((c : Thread nD τ).loc main_arg14)) (m ((c : Thread nD τ).loc main_arg15))
    (m ((c : Thread nD τ).loc main_arg16)) (m ((c : Thread nD τ).loc main_arg17)) (m ((c : Thread nD τ).loc main_arg18))
    (m ((c : Thread nD τ).loc main_arg19)) (m ((c : Thread nD τ).loc main_arg20)) := by
  refine (dats m 0 c).arrAt_eq_of_covers 14 _ (by decide +kernel) fun t _ y => ?_
  blk_simp
  rw [after0_14]; frame_out
  obtain ⟨a0, a1, a2, rfl⟩ : ∃ (a0 : Fin 32) (a1 : Fin 1) (a2 : Fin 512), y = ix3 a0 a1 a2 := ⟨_, _, _, eq_ix3 y⟩
  have e : ((View.whole main_v8_0).slice (win0_14.rect t)).emb (ix3 a0 a1 a2) = ix3 (entry t a0) a1 a2 := by blk_ext [idx t, entry]
  rw [e]
  rw [pay19_eq, pay20_eq]
  refine Eq.trans ?_ (RefAt.augOf_at _ _ _ _ _ _ _ _ _ _ _ _ _ _ _ _ _ _).symm
  refine (KerAt.pay17_at _ _ _ _ _ _ a0 a1 a2).trans ?_
  have hu : (fun d => k0_pay2 (iblk m c 1 t) (iblk m c 0 t) (ix2 a0 d)) = _ :=
    funext fun d => KerAt.pay2_at _ _ a0 d _ (keep_block' m c t a0) (node_finite m c hf t a0)
  have hc : (fun d => k0_pay3 (iblk m c 4 t) (ix2 a0 d)) = _ := funext fun d => (KerAt.pay3_at _ a0 d).trans (cur_block m c t a0 d)
  have hd : (fun d => k0_pay4 (iblk m c 5 t) (ix2 a0 d)) = _ := funext fun d => (KerAt.pay4_at _ a0 d).trans (depot_block m c t a0 d)
  have hg := funext fun d => chosen_block m c hf t a0 d
  have hn : (fun x d => iblk m c 1 t (ix3 a0 x d)) = _ := funext fun x => funext fun d => node_block m c t a0 x d
  rw [hu, hc, hd, hg, hn]
  rfl

/-- A number whose absolute value lies below infinity is finite. -/
theorem finite_of_abs (x : EReal) (h : max x (-x) < Ideal.ofBits .f32 2139095040#32) : x ≠ ⊤ ∧ x ≠ ⊥ := by
  have e : Ideal.ofBits .f32 2139095040#32 = ⊤ := by simp [Ideal.ofBits, Ideal.ieee]
  rw [e, max_lt_iff] at h
  exact ⟨h.1.ne, fun q => h.2.ne (by rw [q]; rfl)⟩

/-- The precondition makes every node entry finite. -/
theorem finite_of_pre (h : Cert.Pre_KernelIdeal_finite_nodes m) (c : Dev nD) : Finite m c := fun b x d =>
  finite_of_abs _ ((Spec.ofBool_iff _).1 (Host.reduce_andi_all _ _ _ _ _ (congrFun (h c) ix0) (ix3 b x d)))

end Cert.Final
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Final
public import Idealize.ShloMosaic.Lib.Quiescent

/-!
# The claims of the multi-head guide kernel

The kernel as printed and idealized runs with its arguments unchanged, and so does the reference; on the extended reals both programs end
with the same four arrays: the augmented context, the chosen clusters' embeddings, their numbers and the log-probabilities. `Spec` holds
the functions of one batch entry, `RefRun` and `RefAt` read the reference against them, `KerAt` and `Final` the kernel.
-/

@[expose] public section

set_option maxRecDepth 16384

noncomputable section

namespace Cert.Proof

open Idealize.ShloMosaic Idealize.SL.Sem

/-- The precondition's side conditions. -/
theorem preFacts : Cert.Pre_finite_nodes.Facts := ⟨by decide, by decide, by decide⟩

/-- The reference leaves its arguments unchanged, and has no semaphore to leave set. -/
theorem reference_frame : Cert.quiescent_ReferenceIdeal := fun m g _ =>
  θ_run_mono (Cert.RefRun.run m g) fun r h => ⟨fun c => by
    have ha := (h c).2.2.2.2
    and_intros <;> exact ha _ (by decide), sem_eq_zero_of_no_sems (by decide) _⟩

/-- On finite nodes both programs end with the same four arrays. -/
theorem same_results [Cert.Pre_finite_nodes.Facts] : Cert.algebraic_KernelIdeal_ReferenceIdeal_pre_finite_nodes := by
  pair_intro
  · run_from Cert.KernelIdeal.Value.run_blocks m g
  · refine θ_run_mono (Cert.RefRun.run m' g') fun r h c => ?_
    have hf := Cert.Final.finite_of_pre m hpre c
    obtain ⟨haug, hchosen, hguide, hlogp, ha⟩ := h c
    obtain ⟨h0, h1, h2, h3, h4, h5, h6, h7, h8, h9, h10, h11, h12, h13, h14, h15, h16, h17, h18, h19, h20⟩ := hagree c
    rw [h0, h1, h2, h3, h6, h7, h8, h13, h14, h15, h16, h17, h18, h19, h20] at haug
    rw [h0, h1, h2, h3, h7, h8, h13, h14, h15, h16, h17, h18, h19, h20] at hchosen hguide hlogp
    refine ⟨haug.trans (Cert.Final.final14 m c hf).symm, hchosen.trans (Cert.Final.final15 m c hf).symm,
      hguide.trans (Cert.Final.final16 m c hf).symm, hlogp.trans (Cert.Final.final17 m c hf).symm, ?_⟩
    and_intros <;> exact ha _ (by decide)

/-- All the claims. -/
theorem claim : Cert.Claim :=
  ⟨Cert.Kernel.Gen.facts, Cert.KernelIdeal.Gen.facts, Cert.ReferenceIdeal.Gen.facts, preFacts,
    fun m g _ => Cert.Kernel.Gen.frame m g, fun m g _ => Cert.KernelIdeal.Gen.frame m g, fun m g _ => Cert.KernelIdeal.Gen.frame m g,
    reference_frame, fun m g _ => reference_frame m g trivial, trivial, @same_results preFacts⟩

end Cert.Proof

end
